-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![512, 128]⟩ ⟨2, ![4096, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 128]⟩ ⟨2, ![4096, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![4096, 128]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 128]⟩ ⟨2, ![4096, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x128 : Shape := ⟨2, ![512, 128]⟩
abbrev S_ : Shape := ⟨0, ![]⟩

class Facts : Prop where
  bcast_S_S512x128 : S_.BroadcastsInDim S512x128 (![] : Fin 0 → Fin S512x128.rank)

variable [Facts]

def fn {F : FTy → Type} [FloatOps F] (main_arg0 : FVec F S512x128 .f32) (main_arg1 : FVec F S512x128 .f32) (main_arg2 : FVec F S512x128 .f32) : IVec S512x128 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_v3 : FVec F S512x128 .f32 := Host.absf main_arg1
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  let main_v6 : IVec S512x128 1 := andi main_v2 main_v5
  main_v6
-- ==== Pre_finite_scores_ReferenceIdeal.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)

variable [Facts]

def fn {F : FTy → Type} [FloatOps F] (main_arg0 : FVec F S4096x128 .f32) (main_arg1 : FVec F S4096x128 .f32) (main_arg2 : FVec F S4096x128 .f32) : IVec S4096x128 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : IVec S4096x128 1 := andi main_v2 main_v5
  main_v6
-- ==== Kernel.lean ====
abbrev S512x128 : Shape := ⟨2, ![512, 128]⟩
abbrev S8x2x512x128 : Shape := ⟨4, ![8, 2, 512, 128]⟩
abbrev S8 : Shape := ⟨1, ![8]⟩
abbrev S_ : Shape := ⟨0, ![]⟩
abbrev S1x1x512x128 : Shape := ⟨4, ![1, 1, 512, 128]⟩
abbrev S1 : Shape := ⟨1, ![1]⟩
abbrev S1x2x512x128 : Shape := ⟨4, ![1, 2, 512, 128]⟩
abbrev S2x512x128 : Shape := ⟨3, ![2, 512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S8x2x512x128, .bf16⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v107 : BitVec 32 := Scalar.addi v2 c1_i32_74
  let c8_i32_75 : BitVec 32 := 8#32
  let c0_i32_76 : BitVec 32 := 0#32
  let v108 : BitVec 1 := Scalar.cmpi .eq c8_i32_75 c0_i32_76
  let c1_i32_77 : BitVec 32 := 1#32
  let v109 : BitVec 32 := Scalar.select v108 c1_i32_77 c8_i32_75
  let v110 : BitVec 32 := Scalar.remsi v107 v109
  let c0_i32_79 : BitVec 32 := 0#32
  let v112 : BitVec 1 := Scalar.cmpi .slt v110 c0_i32_79
  let c0_i32_80 : BitVec 32 := 0#32
  let v113 : BitVec 1 := Scalar.cmpi .slt v109 c0_i32_80
  let v114 : BitVec 1 := Scalar.xori v112 v113
  let c0_i32_78 : BitVec 32 := 0#32
  let v111 : BitVec 1 := Scalar.cmpi .ne v110 c0_i32_78
  let v115 : BitVec 1 := Scalar.andi v114 v111
  let v116 : BitVec 32 := Scalar.addi v110 v109
  let v117 : BitVec 32 := Scalar.select v115 v116 v110
  let c1_i32_85 : BitVec 32 := 1#32
  let v118 : BitVec 32 := Scalar.muli v117 c1_i32_85
  let v119 : BitVec 32 := Scalar.addi c0_i32_86 v118
  v119.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_93 : BitVec 32 := 2#32
  let v128 : BitVec 32 := Scalar.addi v2 c2_i32_93
  let c8_i32_94 : BitVec 32 := 8#32
  let c0_i32_95 : BitVec 32 := 0#32
  let v129 : BitVec 1 := Scalar.cmpi .eq c8_i32_94 c0_i32_95
  let c1_i32_96 : BitVec 32 := 1#32
  let v130 : BitVec 32 := Scalar.select v129 c1_i32_96 c8_i32_94
  let v131 : BitVec 32 := Scalar.remsi v128 v130
  let c0_i32_98 : BitVec 32 := 0#32
  let v133 : BitVec 1 := Scalar.cmpi .slt v131 c0_i32_98
  let c0_i32_99 : BitVec 32 := 0#32
  let v134 : BitVec 1 := Scalar.cmpi .slt v130 c0_i32_99
  let v135 : BitVec 1 := Scalar.xori v133 v134
  let c0_i32_97 : BitVec 32 := 0#32
  let v132 : BitVec 1 := Scalar.cmpi .ne v131 c0_i32_97
  let v136 : BitVec 1 := Scalar.andi v135 v132
  let v137 : BitVec 32 := Scalar.addi v131 v130
  let v138 : BitVec 32 := Scalar.select v136 v137 v131
  let c1_i32_104 : BitVec 32 := 1#32
  let v139 : BitVec 32 := Scalar.muli v138 c1_i32_104
  let v140 : BitVec 32 := Scalar.addi c0_i32_105 v139
  v140.toNat
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_112 : BitVec 32 := 3#32
  let v149 : BitVec 32 := Scalar.addi v2 c3_i32_112
  let c8_i32_113 : BitVec 32 := 8#32
  let c0_i32_114 : BitVec 32 := 0#32
  let v150 : BitVec 1 := Scalar.cmpi .eq c8_i32_113 c0_i32_114
  let c1_i32_115 : BitVec 32 := 1#32
  let v151 : BitVec 32 := Scalar.select v150 c1_i32_115 c8_i32_113
  let v152 : BitVec 32 := Scalar.remsi v149 v151
  let c0_i32_117 : BitVec 32 := 0#32
  let v154 : BitVec 1 := Scalar.cmpi .slt v152 c0_i32_117
  let c0_i32_118 : BitVec 32 := 0#32
  let v155 : BitVec 1 := Scalar.cmpi .slt v151 c0_i32_118
  let v156 : BitVec 1 := Scalar.xori v154 v155
  let c0_i32_116 : BitVec 32 := 0#32
  let v153 : BitVec 1 := Scalar.cmpi .ne v152 c0_i32_116
  let v157 : BitVec 1 := Scalar.andi v156 v153
  let v158 : BitVec 32 := Scalar.addi v152 v151
  let v159 : BitVec 32 := Scalar.select v157 v158 v152
  let c1_i32_123 : BitVec 32 := 1#32
  let v160 : BitVec 32 := Scalar.muli v159 c1_i32_123
  let v161 : BitVec 32 := Scalar.addi c0_i32_124 v160
  v161.toNat
def k0_dev11 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v170 : BitVec 32 := Scalar.addi v2 c4_i32_131
  let c8_i32_132 : BitVec 32 := 8#32
  let c0_i32_133 : BitVec 32 := 0#32
  let v171 : BitVec 1 := Scalar.cmpi .eq c8_i32_132 c0_i32_133
  let c1_i32_134 : BitVec 32 := 1#32
  let v172 : BitVec 32 := Scalar.select v171 c1_i32_134 c8_i32_132
  let v173 : BitVec 32 := Scalar.remsi v170 v172
  let c0_i32_136 : BitVec 32 := 0#32
  let v175 : BitVec 1 := Scalar.cmpi .slt v173 c0_i32_136
  let c0_i32_137 : BitVec 32 := 0#32
  let v176 : BitVec 1 := Scalar.cmpi .slt v172 c0_i32_137
  let v177 : BitVec 1 := Scalar.xori v175 v176
  let c0_i32_135 : BitVec 32 := 0#32
  let v174 : BitVec 1 := Scalar.cmpi .ne v173 c0_i32_135
  let v178 : BitVec 1 := Scalar.andi v177 v174
  let v179 : BitVec 32 := Scalar.addi v173 v172
  let v180 : BitVec 32 := Scalar.select v178 v179 v173
  let c1_i32_142 : BitVec 32 := 1#32
  let v181 : BitVec 32 := Scalar.muli v180 c1_i32_142
  let v182 : BitVec 32 := Scalar.addi c0_i32_143 v181
  v182.toNat
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_150 : BitVec 32 := 5#32
  let v191 : BitVec 32 := Scalar.addi v2 c5_i32_150
  let c8_i32_151 : BitVec 32 := 8#32
  let c0_i32_152 : BitVec 32 := 0#32
  let v192 : BitVec 1 := Scalar.cmpi .eq c8_i32_151 c0_i32_152
  let c1_i32_153 : BitVec 32 := 1#32
  let v193 : BitVec 32 := Scalar.select v192 c1_i32_153 c8_i32_151
  let v194 : BitVec 32 := Scalar.remsi v191 v193
  let c0_i32_155 : BitVec 32 := 0#32
  let v196 : BitVec 1 := Scalar.cmpi .slt v194 c0_i32_155
  let c0_i32_156 : BitVec 32 := 0#32
  let v197 : BitVec 1 := Scalar.cmpi .slt v193 c0_i32_156
  let v198 : BitVec 1 := Scalar.xori v196 v197
  let c0_i32_154 : BitVec 32 := 0#32
  let v195 : BitVec 1 := Scalar.cmpi .ne v194 c0_i32_154
  let v199 : BitVec 1 := Scalar.andi v198 v195
  let v200 : BitVec 32 := Scalar.addi v194 v193
  let v201 : BitVec 32 := Scalar.select v199 v200 v194
  let c1_i32_161 : BitVec 32 := 1#32
  let v202 : BitVec 32 := Scalar.muli v201 c1_i32_161
  let v203 : BitVec 32 := Scalar.addi c0_i32_162 v202
  v203.toNat
def k0_dev13 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_169 : BitVec 32 := 6#32
  let v212 : BitVec 32 := Scalar.addi v2 c6_i32_169
  let c8_i32_170 : BitVec 32 := 8#32
  let c0_i32_171 : BitVec 32 := 0#32
  let v213 : BitVec 1 := Scalar.cmpi .eq c8_i32_170 c0_i32_171
  let c1_i32_172 : BitVec 32 := 1#32
  let v214 : BitVec 32 := Scalar.select v213 c1_i32_172 c8_i32_170
  let v215 : BitVec 32 := Scalar.remsi v212 v214
  let c0_i32_174 : BitVec 32 := 0#32
  let v217 : BitVec 1 := Scalar.cmpi .slt v215 c0_i32_174
  let c0_i32_175 : BitVec 32 := 0#32
  let v218 : BitVec 1 := Scalar.cmpi .slt v214 c0_i32_175
  let v219 : BitVec 1 := Scalar.xori v217 v218
  let c0_i32_173 : BitVec 32 := 0#32
  let v216 : BitVec 1 := Scalar.cmpi .ne v215 c0_i32_173
  let v220 : BitVec 1 := Scalar.andi v219 v216
  let v221 : BitVec 32 := Scalar.addi v215 v214
  let v222 : BitVec 32 := Scalar.select v220 v221 v215
  let c1_i32_180 : BitVec 32 := 1#32
  let v223 : BitVec 32 := Scalar.muli v222 c1_i32_180
  let v224 : BitVec 32 := Scalar.addi c0_i32_181 v223
  v224.toNat
def k0_dev14 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_188 : BitVec 32 := 7#32
  let v233 : BitVec 32 := Scalar.addi v2 c7_i32_188
  let c8_i32_189 : BitVec 32 := 8#32
  let c0_i32_190 : BitVec 32 := 0#32
  let v234 : BitVec 1 := Scalar.cmpi .eq c8_i32_189 c0_i32_190
  let c1_i32_191 : BitVec 32 := 1#32
  let v235 : BitVec 32 := Scalar.select v234 c1_i32_191 c8_i32_189
  let v236 : BitVec 32 := Scalar.remsi v233 v235
  let c0_i32_193 : BitVec 32 := 0#32
  let v238 : BitVec 1 := Scalar.cmpi .slt v236 c0_i32_193
  let c0_i32_194 : BitVec 32 := 0#32
  let v239 : BitVec 1 := Scalar.cmpi .slt v235 c0_i32_194
  let v240 : BitVec 1 := Scalar.xori v238 v239
  let c0_i32_192 : BitVec 32 := 0#32
  let v237 : BitVec 1 := Scalar.cmpi .ne v236 c0_i32_192
  let v241 : BitVec 1 := Scalar.andi v240 v237
  let v242 : BitVec 32 := Scalar.addi v236 v235
  let v243 : BitVec 32 := Scalar.select v241 v242 v236
  let c1_i32_199 : BitVec 32 := 1#32
  let v244 : BitVec 32 := Scalar.muli v243 c1_i32_199
  let v245 : BitVec 32 := Scalar.addi c0_i32_200 v244
  v245.toNat
abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S4096x128 : Shape := ⟨2, ![4096, 128]⟩
abbrev S128x4096 : Shape := ⟨2, ![128, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S128x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Softmax.lean ====
/-
# Softmax over blocks

One query row. Its scores are real, its values are any extended reals. A pass over one block takes the running maximum
`m`, the running sum `l` and the running weighted sum `a` to those of one block more; whatever the running maximum is, it
is real, `l` is `e ^ (-m)` times the sum of the exponentials seen so far, and `a` is `e ^ (-m)` times their weighted sum.
The quotient at the end is then free of `m`, and so is the row of the plain softmax.
-/
module

public import Idealize.ShloMosaic.PureOps.Ideal
public import Idealize.ShloMosaic.PureOps.Ideal.Laws
public import Mathlib.Data.Finset.Fold

@[expose] public section

noncomputable section

namespace Cert.Exchange

open Idealize.ShloMosaic
open scoped BigOperators

/-! ## Sums of extended reals under a real factor -/

theorem coe_sum_real {ι : Type} (S : Finset ι) (f : ι → ℝ) : ((∑ i ∈ S, f i : ℝ) : EReal) = ∑ i ∈ S, (f i : EReal) := by
  classical
  induction S using Finset.induction with
  | empty => rfl
  | insert i S hi ih => rw [Finset.sum_insert hi, Finset.sum_insert hi, EReal.coe_add, ih]

theorem real_mul_sum {ι : Type} (S : Finset ι) {e : ℝ} (he : 0 ≤ e) (f : ι → EReal) : (e : EReal) * ∑ i ∈ S, f i = ∑ i ∈ S, (e : EReal) * f i := by
  classical
  induction S using Finset.induction with
  | empty => simp
  | insert i S hi ih =>
    rw [Finset.sum_insert hi, Finset.sum_insert hi, EReal.left_distrib_of_nonneg_of_ne_top (EReal.coe_nonneg.mpr he) (EReal.coe_ne_top e), ih]

/-- The maximum of a nonempty family of reals is real. -/
theorem fold_max_real {ι : Type} [Fintype ι] [Nonempty ι] (s : ι → ℝ) :
    ∃ M : ℝ, (Finset.univ : Finset ι).fold max (⊥ : EReal) (fun t => (s t : EReal)) = (M : EReal) := by
  have ht : (Finset.univ : Finset ι).fold max (⊥ : EReal) (fun t => (s t : EReal)) < ⊤ :=
    (Finset.fold_max_lt (c := (⊤ : EReal))).mpr ⟨bot_lt_top, fun t _ => EReal.coe_lt_top _⟩
  have hb : ((s (Classical.arbitrary ι) : ℝ) : EReal) ≤ (Finset.univ : Finset ι).fold max (⊥ : EReal) (fun t => (s t : EReal)) :=
    (Finset.le_fold_max _).mpr (Or.inr ⟨_, Finset.mem_univ _, le_refl _⟩)
  exact ⟨_, (EReal.coe_toReal ht.ne (ne_of_gt (lt_of_lt_of_le (EReal.bot_lt_coe _) hb))).symm⟩

theorem exp_sub_real (x M : ℝ) : Ideal.exp ((x : EReal) - (M : EReal)) = ((Real.exp (-M) * Real.exp x : ℝ) : EReal) := by
  rw [← EReal.coe_sub, Ideal.exp_coe, ← Real.exp_add, neg_add_eq_sub]

/-! ## One block -/

variable {ι : Type} [Fintype ι]

def rowMax (m : EReal) (s : ι → EReal) : EReal := max m ((Finset.univ : Finset ι).fold max ⊥ s)
def rowSum (m l : EReal) (s : ι → EReal) : EReal := l * Ideal.exp (m - rowMax m s) + ∑ t, Ideal.exp (s t - rowMax m s)
def rowAcc (m a : EReal) (s v : ι → EReal) : EReal := a * Ideal.exp (m - rowMax m s) + ∑ t, Ideal.exp (s t - rowMax m s) * v t

/-- The sum of a block's exponentials, and their weighted sum. -/
def expSum (s : ι → ℝ) : ℝ := ∑ t, Real.exp (s t)
def expAcc (s : ι → ℝ) (v : ι → EReal) : EReal := ∑ t, ((Real.exp (s t) : ℝ) : EReal) * v t

theorem expSum_pos [Nonempty ι] (s : ι → ℝ) : 0 < expSum s := Finset.sum_pos (fun t _ => Real.exp_pos _) Finset.univ_nonempty

theorem block_sum (s : ι → ℝ) (M : ℝ) : ∑ t, Ideal.exp ((s t : EReal) - (M : EReal)) = ((Real.exp (-M) * expSum s : ℝ) : EReal) := by
  unfold expSum
  rw [Finset.mul_sum, coe_sum_real]
  exact Finset.sum_congr rfl fun t _ => exp_sub_real _ _

theorem block_acc (s : ι → ℝ) (v : ι → EReal) (M : ℝ) :
    ∑ t, Ideal.exp ((s t : EReal) - (M : EReal)) * v t = ((Real.exp (-M) : ℝ) : EReal) * expAcc s v := by
  unfold expAcc
  rw [real_mul_sum _ (Real.exp_pos _).le]
  exact Finset.sum_congr rfl fun t _ => by rw [exp_sub_real, EReal.coe_mul, mul_assoc]

/-- What the running triple is after blocks whose exponentials sum to `E` and, weighted, to `A`. -/
def Running (m l a : EReal) (E : ℝ) (A : EReal) : Prop :=
  ∃ M : ℝ, m = (M : EReal) ∧ l = ((Real.exp (-M) * E : ℝ) : EReal) ∧ a = ((Real.exp (-M) : ℝ) : EReal) * A

theorem running_first [Nonempty ι] (s : ι → ℝ) (v : ι → EReal) :
    Running (rowMax ⊥ fun t => (s t : EReal)) (rowSum ⊥ 0 fun t => (s t : EReal)) (rowAcc ⊥ 0 (fun t => (s t : EReal)) v) (expSum s) (expAcc s v) := by
  obtain ⟨M, hM⟩ := fold_max_real s
  have hm : rowMax ⊥ (fun t => (s t : EReal)) = (M : EReal) := by unfold rowMax; rw [hM]; exact max_eq_right bot_le
  refine ⟨M, hm, ?_, ?_⟩
  · unfold rowSum; rw [hm, block_sum, zero_mul, zero_add]
  · unfold rowAcc; rw [hm, block_acc, zero_mul, zero_add]

theorem running_next [Nonempty ι] {m l a : EReal} {E : ℝ} {A : EReal} (h : Running m l a E A) (s : ι → ℝ) (v : ι → EReal) :
    Running (rowMax m fun t => (s t : EReal)) (rowSum m l fun t => (s t : EReal)) (rowAcc m a (fun t => (s t : EReal)) v) (E + expSum s) (A + expAcc s v) := by
  obtain ⟨M₀, rfl, rfl, rfl⟩ := h
  obtain ⟨M₁, hM⟩ := fold_max_real s
  obtain ⟨M, hm⟩ : ∃ M : ℝ, rowMax (M₀ : EReal) (fun t => (s t : EReal)) = (M : EReal) := by
    unfold rowMax; rw [hM]; exact ⟨max M₀ M₁, (EReal.coe_strictMono.monotone.map_max (a := M₀) (b := M₁)).symm⟩
  have hc : Real.exp (-M₀) * (Real.exp (-M) * Real.exp M₀) = Real.exp (-M) := by
    rw [← Real.exp_add, ← Real.exp_add]; congr 1; ring
  refine ⟨M, hm, ?_, ?_⟩
  · unfold rowSum
    rw [hm, block_sum, exp_sub_real, ← EReal.coe_mul, ← EReal.coe_add]
    refine congrArg (fun r : ℝ => (r : EReal)) ?_
    rw [mul_add, mul_right_comm, hc]
  · unfold rowAcc
    rw [hm, block_acc, exp_sub_real, mul_right_comm, ← EReal.coe_mul, hc,
      EReal.left_distrib_of_nonneg_of_ne_top (EReal.coe_nonneg.mpr (Real.exp_pos _).le) (EReal.coe_ne_top _)]

/-- The quotient at the end. -/
theorem running_div {m l a : EReal} {E : ℝ} {A : EReal} (h : Running m l a E A) (hE : 0 < E) : Ideal.div a l = A * ((1 / E : ℝ) : EReal) := by
  obtain ⟨M, -, rfl, rfl⟩ := h
  rw [Ideal.div_coe (mul_pos (Real.exp_pos _) hE).ne', mul_comm _ A, mul_assoc, ← EReal.coe_mul]
  refine congrArg (fun r : ℝ => A * (r : EReal)) ?_
  have := (Real.exp_pos (-M)).ne'
  field_simp

/-! ## The plain row -/

/-- The plain softmax's row against the values, at any real stand-in for the maximum. -/
theorem plain_row [Nonempty ι] (s : ι → ℝ) (v : ι → EReal) (M : ℝ) :
    ∑ x, Ideal.div (Ideal.exp ((s x : EReal) - (M : EReal))) (∑ y, Ideal.exp ((s y : EReal) - (M : EReal))) * v x
      = expAcc s v * ((1 / expSum s : ℝ) : EReal) := by
  have hp := expSum_pos s
  rw [block_sum]
  unfold expAcc
  rw [mul_comm (∑ t, _) _, real_mul_sum _ (by positivity)]
  refine Finset.sum_congr rfl fun x _ => ?_
  rw [Ideal.div_coe (mul_pos (Real.exp_pos _) hp).ne', exp_sub_real, ← EReal.coe_mul, ← mul_assoc, ← EReal.coe_mul]
  refine congrArg (fun r : ℝ => (r : EReal) * v x) ?_
  have := (Real.exp_pos (-M)).ne'
  field_simp

end Cert.Exchange

end
-- ==== Proof.Fold.lean ====
/-
# One block of the kernel's pass over the extended reals

The kernel repeats one block's arithmetic eight times. It is read here once, at a query row and an output column: the
running maximum, sum and weighted sum are the row's of `Softmax`, of the scores that the block's keys give.
-/
module

public import proofs.«01_k».proof.Proof.Softmax
public import proofs.«01_k».proof.Proof.Gen.KernelIdeal.Skeleton
public import Idealize.ShloMosaic.PureOps.IdealRules
public import Idealize.ShloMosaic.Lib.MatmulPlain
public import Idealize.ShloMosaic.Lib.ValueLayoutCasts
public import Idealize.ShloMosaic.Lib.Pipeline.Value

@[expose] public section

noncomputable section

namespace Cert.Exchange

open Cert.KernelIdeal Cert.KernelIdeal.Gen
open Idealize.ShloMosaic Idealize.ShloMosaic.ValueIdx
open scoped BigOperators

/-! ## Layouts at an index -/

theorem cast_same (x : FVec Ideal S512x128 .f32) (h : S512x128.ShapeCasts S512x128) (j : S512x128.Idx) : shapeCast S512x128 x h j = x j :=
  shapeCast_apply x h j j rfl

theorem cast_up {α : Type} (x : S512x128.Idx → α) (h : S512x128.ShapeCasts S1x1x512x128) (t : Fin 512) (d : Fin 128) :
    shapeCast S1x1x512x128 x h (ix4 0 0 t d) = x (ix2 t d) :=
  shapeCast_apply x h _ _ (by
    rw [Shape.rowMajor_val_two, Shape.rowMajor_val_four]
    show t.val * 128 + d.val = ((0 * 1 + 0) * 512 + t.val) * 128 + d.val
    omega)

theorem cast_down {α : Type} (x : S1x1x512x128.Idx → α) (h : S1x1x512x128.ShapeCasts S512x128) (t : Fin 512) (d : Fin 128) :
    shapeCast S512x128 x h (ix2 t d) = x (ix4 0 0 t d) :=
  shapeCast_apply x h _ _ (by
    rw [Shape.rowMajor_val_two, Shape.rowMajor_val_four]
    show ((0 * 1 + 0) * 512 + t.val) * 128 + d.val = t.val * 128 + d.val
    omega)

theorem column_wide {α : Type} {b : ℕ} (x : S512x1.Idx → α) (h : S512x1.Broadcasts ⟨2, ![512, b]⟩) (i : Fin 512) (j : Fin b) :
    broadcastTo ⟨2, ![512, b]⟩ x h (ix2 i j) = x (ix2 i 0) :=
  broadcastTo_apply x h _ _ fun a => match a with
    | ⟨0, _⟩ => rfl
    | ⟨1, _⟩ => rfl

theorem lift_row (h : S512x512.Reduces [1] S512) (i : Fin 512) (t : Fin 512) : h.lift (ix1 i) t = ix2 i t := by
  funext a; apply Fin.ext
  match a with
  | ⟨0, _⟩ => rfl
  | ⟨1, _⟩ => rfl

/-! ## What the staged blocks read -/

theorem pay1_apply (x : Vec Ideal S512x128 .f32) (t : Fin 512) (d : Fin 128) : k0_pay1 (F := Ideal) x (ix4 0 0 t d) = x (ix2 t d) := by
  unfold k0_pay1
  refine (cast_up (truncf (F := Ideal) .bf16 (shapeCast S512x128 x shapeCasts_S512x128_S512x128) bitsLt_bf16_f32) shapeCasts_S512x128_S1x1x512x128 t d).trans ?_
  exact cast_same x shapeCasts_S512x128_S512x128 (ix2 t d)
theorem pay2_apply (x : Vec Ideal S512x128 .f32) (t : Fin 512) (d : Fin 128) : k0_pay2 (F := Ideal) x (ix4 0 0 t d) = x (ix2 t d) := by
  unfold k0_pay2
  refine (cast_up (truncf (F := Ideal) .bf16 (shapeCast S512x128 x shapeCasts_S512x128_S512x128) bitsLt_bf16_f32) shapeCasts_S512x128_S1x1x512x128 t d).trans ?_
  exact cast_same x shapeCasts_S512x128_S512x128 (ix2 t d)
theorem pay3_apply (x : Vec Ideal S512x128 .f32) (i : Fin 512) (d : Fin 128) : k0_pay3 (F := Ideal) x (ix2 i d) = x (ix2 i d) :=
  cast_same x _ _

/-! ## The scores -/

theorem scale_eq : (Named.named κ "s" 0x3DB504F3#32 : Ideal .f32) = (((Real.sqrt 128)⁻¹ : ℝ) : EReal) :=
  IdealRules.named_const.ideal_named_scalar _ _ _ _ rfl

/-- A block's score is the scaled product of the query's row and the key's. -/
theorem scores_apply (q : FVec Ideal S512x128 .bf16) (k : Vec Ideal S1x1x512x128 .bf16) (i t : Fin 512) :
    k0_pay11 (F := Ideal) q k (ix2 i t) = (∑ d : Fin 128, q (ix2 i d) * k (ix4 0 0 t d)) * (((Real.sqrt 128)⁻¹ : ℝ) : EReal) := by
  show FloatOps.matmul (F := Ideal) (DotDims.transposedRhs 512 128 512) none q (shapeCast S512x128 k shapeCasts_S1x1x512x128_S512x128)
    (constant S512x512 .f32 0x00000000#32) (ix2 i t) * (Named.named κ "s" 0x3DB504F3#32 : Ideal .f32) = _
  rw [scale_eq, Ideal.matmul_transposedRhs_apply]
  refine congrArg (· * (((Real.sqrt 128)⁻¹ : ℝ) : EReal)) ?_
  show Ideal.ofBits .f32 0x00000000#32 + _ = _
  rw [Ideal.ofBits_zero_f32, zero_add]
  exact Finset.sum_congr rfl fun d _ => by rw [cast_down]

theorem neg_inf : Ideal.ofBits .f32 0xFF800000#32 = ⊥ := by simp [Ideal.ofBits, Ideal.ieee]

/-! ## A row's maximum and a row's sum -/

theorem row_fold (x : FVec Ideal S512x512 .f32) (i : Fin 512) :
    shapeCast S512x1 (multiReduction .maximumf [1] S512 x 0xFF800000#32 reduces_S512x512_S512 (.inl rfl) rfl) shapeCasts_S512_S512x1 (ix2 i 0)
      = (Finset.univ : Finset (Fin 512)).fold max ⊥ (fun t => x (ix2 i t)) := by
  refine (shapeCast_a_a1_apply _ shapeCasts_S512_S512x1 i 0).trans ?_
  refine (Ideal.multiReduction_maximumf_single x 0xFF800000#32 reduces_S512x512_S512 (.inl rfl) rfl (ix1 i)).trans ?_
  refine (congrArg (fun b => Finset.fold max b (x ∘ Shape.Reduces.lift reduces_S512x512_S512 (ix1 i)) Finset.univ) neg_inf).trans ?_
  exact congrArg (fun g => Finset.fold max (⊥ : EReal) g Finset.univ) (funext fun t => congrArg x (lift_row reduces_S512x512_S512 i t))

theorem row_total (x : FVec Ideal S512x512 .f32) (i : Fin 512) :
    shapeCast S512x1 (multiReduction .add [1] S512 x 0x00000000#32 reduces_S512x512_S512 (.inl rfl) rfl) shapeCasts_S512_S512x1 (ix2 i 0)
      = ∑ t : Fin 512, x (ix2 i t) := by
  refine (shapeCast_a_a1_apply _ shapeCasts_S512_S512x1 i 0).trans ?_
  refine (Ideal.multiReduction_add_single x 0x00000000#32 reduces_S512x512_S512 (.inl rfl) rfl (ix1 i)).trans ?_
  exact Finset.sum_congr rfl fun t _ => congrArg x (lift_row reduces_S512x512_S512 i t)

/-! ## The running triple -/

variable (q : FVec Ideal S512x128 .bf16) (mx sm : FVec Ideal S512x1 .f32) (ac : FVec Ideal S512x128 .f32) (k v : Vec Ideal S1x1x512x128 .bf16)

theorem max_apply (i : Fin 512) : k0_pay12 (F := Ideal) q mx k (ix2 i 0) = rowMax (mx (ix2 i 0)) (fun t => k0_pay11 (F := Ideal) q k (ix2 i t)) := by
  show max (mx (ix2 i 0)) (shapeCast S512x1 (multiReduction .maximumf [1] S512 (k0_pay11 (F := Ideal) q k) 0xFF800000#32 reduces_S512x512_S512 (.inl rfl) rfl) shapeCasts_S512_S512x1 (ix2 i 0)) = _
  unfold rowMax
  exact congrArg (max (mx (ix2 i 0))) (row_fold (k0_pay11 (F := Ideal) q k) i)

theorem weight_apply (i t : Fin 512) : k0_pay14 (F := Ideal) q mx k (ix2 i t)
    = Ideal.exp (k0_pay11 (F := Ideal) q k (ix2 i t) - rowMax (mx (ix2 i 0)) (fun t => k0_pay11 (F := Ideal) q k (ix2 i t))) := by
  rw [← max_apply q mx k i]
  exact congrArg (fun x => Ideal.exp (k0_pay11 (F := Ideal) q k (ix2 i t) - x)) (column_wide (k0_pay12 (F := Ideal) q mx k) broadcasts_S512x1_S512x512 i t)

theorem decay_apply (i : Fin 512) : k0_pay13 (F := Ideal) q mx k (ix2 i 0)
    = Ideal.exp (mx (ix2 i 0) - rowMax (mx (ix2 i 0)) (fun t => k0_pay11 (F := Ideal) q k (ix2 i t))) := by
  rw [← max_apply q mx k i]; rfl

theorem sum_apply (i : Fin 512) : k0_pay15 (F := Ideal) q mx sm k (ix2 i 0) = rowSum (mx (ix2 i 0)) (sm (ix2 i 0)) (fun t => k0_pay11 (F := Ideal) q k (ix2 i t)) := by
  show sm (ix2 i 0) * k0_pay13 (F := Ideal) q mx k (ix2 i 0)
    + shapeCast S512x1 (multiReduction .add [1] S512 (k0_pay14 (F := Ideal) q mx k) 0x00000000#32 reduces_S512x512_S512 (.inl rfl) rfl) shapeCasts_S512_S512x1 (ix2 i 0) = _
  unfold rowSum
  rw [decay_apply]
  refine congrArg (fun y : EReal => sm (ix2 i 0) * Ideal.exp (mx (ix2 i 0) - rowMax (mx (ix2 i 0)) fun t => k0_pay11 (F := Ideal) q k (ix2 i t)) + y) ?_
  exact (row_total (k0_pay14 (F := Ideal) q mx k) i).trans (Finset.sum_congr rfl fun t _ => weight_apply q mx k i t)

theorem acc_apply (i : Fin 512) (j : Fin 128) : k0_pay16 (F := Ideal) q mx ac k v (ix2 i j)
    = rowAcc (mx (ix2 i 0)) (ac (ix2 i j)) (fun t => k0_pay11 (F := Ideal) q k (ix2 i t)) (fun t => v (ix4 0 0 t j)) := by
  show ac (ix2 i j) * broadcastTo S512x128 (k0_pay13 (F := Ideal) q mx k) broadcasts_S512x1_S512x128 (ix2 i j)
    + FloatOps.matmul (F := Ideal) (φ₁ := .bf16) (φ₂ := .bf16) (DotDims.plain 512 512 128) none (k0_pay14 (F := Ideal) q mx k) (shapeCast S512x128 v shapeCasts_S1x1x512x128_S512x128)
      (constant S512x128 .f32 0x00000000#32) (ix2 i j) = _
  unfold rowAcc
  rw [Ideal.matmul_plain_apply, column_wide, decay_apply]
  refine congrArg (fun y : EReal => ac (ix2 i j) * Ideal.exp (mx (ix2 i 0) - rowMax (mx (ix2 i 0)) fun t => k0_pay11 (F := Ideal) q k (ix2 i t)) + y) ?_
  show Ideal.ofBits .f32 0x00000000#32 + _ = _
  rw [Ideal.ofBits_zero_f32, zero_add]
  exact Finset.sum_congr rfl fun t _ => by rw [cast_down, weight_apply]

/-- One block more, at a row whose scores are real. -/
theorem step_next {i : Fin 512} {j : Fin 128} {E : ℝ} {A : EReal} (h : Running (mx (ix2 i 0)) (sm (ix2 i 0)) (ac (ix2 i j)) E A)
    (s : Fin 512 → ℝ) (hs : ∀ t, k0_pay11 (F := Ideal) q k (ix2 i t) = (s t : EReal)) (w : Fin 512 → EReal) (hw : ∀ t, v (ix4 0 0 t j) = w t) :
    Running (k0_pay12 (F := Ideal) q mx k (ix2 i 0)) (k0_pay15 (F := Ideal) q mx sm k (ix2 i 0)) (k0_pay16 (F := Ideal) q mx ac k v (ix2 i j))
      (E + expSum s) (A + expAcc s w) := by
  rw [max_apply, sum_apply, acc_apply, funext hs, funext hw]
  exact running_next h s w

/-- The first block. -/
theorem step_first (q : Vec Ideal S512x128 .f32) (k v : Vec Ideal S1x1x512x128 .bf16) {i : Fin 512} {j : Fin 128}
    (s : Fin 512 → ℝ) (hs : ∀ t, k0_pay11 (F := Ideal) (k0_pay3 q) k (ix2 i t) = (s t : EReal)) (w : Fin 512 → EReal) (hw : ∀ t, v (ix4 0 0 t j) = w t) :
    Running (k0_pay6 (F := Ideal) q k (ix2 i 0)) (k0_pay9 (F := Ideal) q k (ix2 i 0)) (k0_pay10 (F := Ideal) q k v (ix2 i j)) (expSum s) (expAcc s w) := by
  show Running (k0_pay12 (F := Ideal) (k0_pay3 q) k0_pay4 k (ix2 i 0))
    (k0_pay15 (F := Ideal) (k0_pay3 q) k0_pay4 (broadcast S512x1 (Scalar.ofBits .f32 0x00000000#32)) k (ix2 i 0))
    (k0_pay16 (F := Ideal) (k0_pay3 q) k0_pay4 (broadcast S512x128 (Scalar.ofBits .f32 0x00000000#32)) k v (ix2 i j)) _ _
  rw [max_apply, sum_apply, acc_apply, funext hs, funext hw]
  show Running (rowMax (Ideal.ofBits .f32 0xFF800000#32) _) (rowSum (Ideal.ofBits .f32 0xFF800000#32) (Ideal.ofBits .f32 0x00000000#32) _)
    (rowAcc (Ideal.ofBits .f32 0xFF800000#32) (Ideal.ofBits .f32 0x00000000#32) _ _) _ _
  rw [neg_inf, Ideal.ofBits_zero_f32]
  exact running_first s w

/-- The last block, and the quotient. -/
theorem step_last {i : Fin 512} {j : Fin 128} {E : ℝ} {A : EReal} (h : Running (mx (ix2 i 0)) (sm (ix2 i 0)) (ac (ix2 i j)) E A) (hE : 0 < E)
    (s : Fin 512 → ℝ) (hs : ∀ t, k0_pay11 (F := Ideal) q k (ix2 i t) = (s t : EReal)) (w : Fin 512 → EReal) (hw : ∀ t, v (ix4 0 0 t j) = w t) :
    k0_pay47 (F := Ideal) q mx sm ac k v (ix2 i j) = (A + expAcc s w) * ((1 / (E + expSum s) : ℝ) : EReal) := by
  rw [← running_div (step_next q mx sm ac k v h s hs w hw) (add_pos hE (expSum_pos s))]
  show Ideal.div (k0_pay16 (F := Ideal) q mx ac k v (ix2 i j)) (broadcastTo S512x128 (k0_pay15 (F := Ideal) q mx sm k) broadcasts_S512x1_S512x128 (ix2 i j)) = _
  rw [column_wide]

end Cert.Exchange

end
-- ==== Proof.Protocol.lean ====
/-
# The protocol of the all-to-all exchange

Eight devices. Device `c` writes its own key and value blocks (rounded to bf16) into slot 0 of its buffer, then copies that
slot to slot `o` of device `c + o (mod 8)`, for `o = 1 … 7`. Before it copies it has signalled the barrier semaphore of
each of the seven peers by one and waited for seven on its own.

* Barrier cell of device `c`: seven duties, duty `e` paid by device `fwd c e`. The payload is that device's slot `e + 1`
  (where the copy of `c` lands), owned outright at any contents.
* Send cell `n ≥ 1` of `c`: one duty, the copy out of slot 0. The payload is the read share of slot 0 the copy held.
* Receive cell `n ≥ 1` of `c`: one duty, paid by the copy of the device `n` places before. The payload is slot `n` holding
  that device's key and value blocks.

Send and receive cell 0 are never used: they have no duty.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The mesh -/

set_option backward.proofsInPublic true in
/-- The device `o + 1` places after `c`; -/
def fwd (c : Dev nD) (o : Fin 7) : Dev nD := ⟨(c.val + (o.val + 1)) % 8, Nat.mod_lt _ (by decide)⟩
set_option backward.proofsInPublic true in
/-- and the one `o + 1` places before. -/
def bwd (c : Dev nD) (o : Fin 7) : Dev nD := ⟨(c.val + (7 - o.val)) % 8, Nat.mod_lt _ (by decide)⟩

theorem fwd_bwd (c : Dev nD) (o : Fin 7) : fwd (bwd c o) o = c := by revert c o; decide
theorem bwd_fwd (c : Dev nD) (o : Fin 7) : bwd (fwd c o) o = c := by revert c o; decide
theorem fwd_rev (c : Dev nD) (o : Fin 7) : fwd (fwd c o) o.rev = c := by revert c o; decide
theorem fwd_rev' (c : Dev nD) (o : Fin 7) : fwd (fwd c o.rev) o = c := by revert c o; decide

/-- The devices the body names: the signals' and the copies' targets. -/
theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 4 := by revert c; decide +kernel
theorem dev6_eq (c : Dev nD) : (⟨k0_dev6 c, k0_dev6_lt c⟩ : Dev nD) = fwd c 5 := by revert c; decide +kernel
theorem dev7_eq (c : Dev nD) : (⟨k0_dev7 c, k0_dev7_lt c⟩ : Dev nD) = fwd c 6 := by revert c; decide +kernel
theorem dev8_eq (c : Dev nD) : (⟨k0_dev8 c, k0_dev8_lt c⟩ : Dev nD) = fwd c 0 := by revert c; decide +kernel
theorem dev9_eq (c : Dev nD) : (⟨k0_dev9 c, k0_dev9_lt c⟩ : Dev nD) = fwd c 1 := by revert c; decide +kernel
theorem dev10_eq (c : Dev nD) : (⟨k0_dev10 c, k0_dev10_lt c⟩ : Dev nD) = fwd c 2 := by revert c; decide +kernel
theorem dev11_eq (c : Dev nD) : (⟨k0_dev11 c, k0_dev11_lt c⟩ : Dev nD) = fwd c 3 := by revert c; decide +kernel
theorem dev12_eq (c : Dev nD) : (⟨k0_dev12 c, k0_dev12_lt c⟩ : Dev nD) = fwd c 4 := by revert c; decide +kernel
theorem dev13_eq (c : Dev nD) : (⟨k0_dev13 c, k0_dev13_lt c⟩ : Dev nD) = fwd c 5 := by revert c; decide +kernel
theorem dev14_eq (c : Dev nD) : (⟨k0_dev14 c, k0_dev14_lt c⟩ : Dev nD) = fwd c 6 := by revert c; decide +kernel

def turn (o : Fin 7) : Dev nD ≃ Dev nD := ⟨fun c => fwd c o, fun c => bwd c o, fun c => bwd_fwd c o, fun c => fwd_bwd c o⟩

/-! ## The memrefs and cells -/

abbrev qM : Memref sig .tc .vmem S512x128 .f32 := Memref.whole cc0_stg0_0
abbrev kM : Memref sig .tc .vmem S512x128 .f32 := Memref.whole cc0_stg1_0
abbrev vM : Memref sig .tc .vmem S512x128 .f32 := Memref.whole cc0_stg2_0
abbrev oM : Memref sig .tc .vmem S512x128 .f32 := Memref.whole cc0_stg3_0
abbrev rM : Memref sig .tc .vmem S8x2x512x128 .bf16 := Memref.whole cc0_scratch0

theorem slot_inb (n : Fin 8) : ∀ a, (![n.val, 0, 0, 0] : Fin 4 → ℕ) a + S1x2x512x128.size a ≤ S8x2x512x128.size a := by
  revert n; decide
theorem piece_inb (n : Fin 8) (j : Fin 2) : ∀ a, (![n.val, j.val, 0, 0] : Fin 4 → ℕ) a + S1x1x512x128.size a ≤ S8x2x512x128.size a := by
  revert n j; decide
theorem sem_inb (n : Fin 8) : ∀ a, (![n.val] : Fin 1 → ℕ) a + S1.size a ≤ S8.size a := by revert n; decide

/-- Slot `n`, and its two pieces (keys, values). -/
abbrev slotR (n : Fin 8) : Rect S8x2x512x128 := Rect.unit (s := S8x2x512x128) ![n.val, 0, 0, 0] S1x2x512x128.size (slot_inb n)
abbrev pieceR (n : Fin 8) (j : Fin 2) : Rect S8x2x512x128 := Rect.unit (s := S8x2x512x128) ![n.val, j.val, 0, 0] S1x1x512x128.size (piece_inb n j)
abbrev slotM (n : Fin 8) : Memref sig .tc .vmem S2x512x128 .bf16 :=
  (rM.slice (slotR n) (fun _ => rfl)).squeeze S2x512x128 squeezes_S1x2x512x128_S2x512x128

abbrev barS : Sem sig := (SemArray.scalar (sig.barrier 0 rfl) : Sems sig S_).sem
abbrev sendS (n : Fin 8) : DmaSem sig :=
  ((cc0_scratch1.slice (Rect.unit (s := S8) ![n.val] S1.size (sem_inb n))).squeeze S_ squeezes_S1_S_).sem
abbrev recvS (n : Fin 8) : DmaSem sig :=
  ((cc0_scratch2.slice (Rect.unit (s := S8) ![n.val] S1.size (sem_inb n))).squeeze S_ squeezes_S1_S_).sem

abbrev barCell (c : Dev nD) : GSem nD τ sig := ((c : Thread nD τ), .reg barS)
abbrev sendCell (c : Dev nD) (n : Fin 8) : GSem nD τ sig := ((c : Thread nD τ), .dma (sendS n))
abbrev recvCell (c : Dev nD) (n : Fin 8) : GSem nD τ sig := ((c : Thread nD τ), .dma (recvS n))

/-- The kernel's own semaphores: eight send, eight receive; -/
abbrev osem : Fin 16 → SemLoc sig := fun k => if h : k.val < 8 then .dma (sendS ⟨k.val, h⟩) else .dma (recvS ⟨k.val - 8, by omega⟩)
/-- all of the exchange's: barrier, send, receive. -/
abbrev CK : Type := Unit ⊕ (Fin 8 ⊕ Fin 8)
abbrev csem : CK → SemLoc sig
  | .inl _ => .reg barS
  | .inr (.inl n) => .dma (sendS n)
  | .inr (.inr n) => .dma (recvS n)
abbrev kcell (ck : Dev nD × CK) : GSem nD τ sig := ((ck.1 : Thread nD τ), csem ck.2)

abbrev N : ℕ := (slotM 0).view.dmaCredit
theorem N_pos : 0 < N := View.dmaCredit_pos _ (by decide)

theorem send_inj {n n' : Fin 8} (h : sendS n = sendS n') : n = n' := by revert n n'; decide
theorem recv_inj {n n' : Fin 8} (h : recvS n = recvS n') : n = n' := by revert n n'; decide
theorem sendS_ne_recvS (n n' : Fin 8) : sendS n ≠ recvS n' := by revert n n'; decide
theorem send_ne_bar (n : Fin 8) : (SemLoc.dma (sendS n) : SemLoc sig) ≠ .reg barS := fun h => by cases h
theorem recv_ne_bar (n : Fin 8) : (SemLoc.dma (recvS n) : SemLoc sig) ≠ .reg barS := fun h => by cases h

theorem csem_injective : Function.Injective csem := by decide
theorem kcell_injective : Function.Injective (kcell : Dev nD × CK → GSem nD τ sig) := by
  rintro ⟨c, k⟩ ⟨c', k'⟩ h
  have h1 : c = c' := congrArg (fun g : GSem nD τ sig => g.1.1) h
  subst h1
  exact congrArg _ (csem_injective (congrArg Prod.snd h))

open Classical in
/-- Which of a device's semaphores a cell is. -/
def kindOf (g : GSem nD τ sig) : Option CK := if h : ∃ k, csem k = g.2 then some h.choose else none

theorem kindOf_cell (ck : Dev nD × CK) : kindOf (kcell ck) = some ck.2 := by
  have h : ∃ k, csem k = (kcell ck).2 := ⟨ck.2, rfl⟩
  unfold kindOf
  rw [dif_pos h]
  exact congrArg some (csem_injective h.choose_spec)
theorem kindOf_bar (c : Dev nD) : kindOf (barCell c) = some (.inl ()) := kindOf_cell (c, .inl ())
theorem kindOf_send (c : Dev nD) (n : Fin 8) : kindOf (sendCell c n) = some (.inr (.inl n)) := kindOf_cell (c, .inr (.inl n))
theorem kindOf_recv (c : Dev nD) (n : Fin 8) : kindOf (recvCell c n) = some (.inr (.inr n)) := kindOf_cell (c, .inr (.inr n))

/-! ## Contents -/

/-- Device `c`'s blocks of the queries, keys and values, as the pipeline stages them. -/
def qstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def vstg (c : Dev nD) : (cc0_stg2_0 : Ref sig .tc).ty.Contents (Elt F) :=
  (win0_2.blk (0 : Fin 1)).view.read (Elt F) ((s₀ m ρ).mem ((c : Thread nD τ).loc main_arg2))

/-- What device `c` sends: its keys and its values, rounded. -/
def kpay (c : Dev nD) : FVec F S1x1x512x128 .bf16 := k0_pay1 (kstg m ρ c)
def vpay (c : Dev nD) : FVec F S1x1x512x128 .bf16 := k0_pay2 (vstg m ρ c)

/-- An index of the buffer with its slot and piece forgotten. -/
def inner (i : S8x2x512x128.Idx) : S1x1x512x128.Idx :=
  fun | ⟨0, _⟩ => (0 : Fin 1) | ⟨1, _⟩ => (0 : Fin 1) | ⟨2, _⟩ => i 2 | ⟨3, _⟩ => i 3

/-- The buffer with device `d`'s keys and values in every slot. -/
def canon (d : Dev nD) : (cc0_scratch0 : Ref sig .tc).ty.Contents (Elt F) :=
  fun (i : S8x2x512x128.Idx) => if (i 1).val = 0 then kpay m ρ d (inner i) else vpay m ρ d (inner i)

set_option backward.proofsInPublic true in
/-- The device whose block slot `n` of device `c` receives. -/
def src (c : Dev nD) (n : Fin 8) : Dev nD := ⟨(c.val + (8 - n.val)) % 8, Nat.mod_lt _ (by decide)⟩
theorem src_succ (c : Dev nD) (o : Fin 7) : src c o.succ = bwd c o := by revert c o; decide
theorem src_fwd (c : Dev nD) (o : Fin 7) : src (fwd c o) o.succ = c := by revert c o; decide
theorem src_zero (c : Dev nD) : src c 0 = c := by revert c; decide

/-- Slot `n` of device `c` held at share `q`. -/
def slotPts (c : Dev nD) (n : Fin 8) (q : PosShare TreeShare) (f : Buf (Elt F) ((c : Thread nD τ).loc cc0_scratch0)) : sProp 𝕄 :=
  (slotM n).view.loc (c : Thread nD τ) ↦[(slotM n).view.set]{q} f

omit [FloatOps F] [Named F] in
instance slotPts_storable (c : Dev nD) (n) (q) (f) : BI.Storable (upEmb : UEmb _ 𝕄) (slotPts (F := F) c n q f) := by
  unfold slotPts; infer_instance

/-! ## The schedule -/

abbrev tok (n : Fin 8) : PosShare TreeShare := Transfers.shareTokN fullShare (n.val - 1)

def barPay (c : Dev nD) (e : Fin 7) : sProp 𝕄 := iprop(∃ f, slotPts (fwd c e) e.succ fullShare f)
def sendPay (c : Dev nD) (n : Fin 8) : sProp 𝕄 := slotPts c 0 (tok n) (canon m ρ c)
def recvPay (c : Dev nD) (n : Fin 8) : sProp 𝕄 := slotPts c n fullShare (canon m ρ (src c n))

def rd : Rounds.Schedule (GSem nD τ sig) (Fin 7) 𝕄 where
  duties g r := if r = 0 then (match kindOf g with
    | some (.inl _) => Finset.univ
    | some (.inr (.inl n)) => if n = 0 then ∅ else {0}
    | some (.inr (.inr n)) => if n = 0 then ∅ else {0}
    | none => ∅) else ∅
  unitless _ := False
  amount g _ _ := match kindOf g with | some (.inl _) => 1 | _ => N
  payload g _ d := match kindOf g with
    | some (.inl _) => barPay g.1.1 d
    | some (.inr (.inl n)) => sendPay m ρ g.1.1 n
    | some (.inr (.inr n)) => recvPay m ρ g.1.1 n
    | none => iprop(emp)
  amount_pos g _ _ _ := by
    split
    · exact Nat.one_pos
    · exact N_pos

instance rd_payload_storable (g : GSem nD τ sig) (r : ℕ) (d : Fin 7) :
    BI.Storable (upEmb : UEmb _ 𝕄) ((rd (F := F) m ρ).payload g r d) := by
  dsimp only [rd]
  unfold barPay sendPay recvPay
  split <;> infer_instance

section Sched
variable (c : Dev nD)

theorem duties_bar : (rd (F := F) m ρ).duties (barCell c) 0 = Finset.univ := by
  dsimp only [rd]; rw [if_pos rfl, kindOf_bar]
theorem duties_send (o : Fin 7) : (rd (F := F) m ρ).duties (sendCell c o.succ) 0 = {0} := by
  dsimp only [rd]; rw [if_pos rfl, kindOf_send]; exact if_neg (Fin.succ_ne_zero o)
theorem duties_recv (o : Fin 7) : (rd (F := F) m ρ).duties (recvCell c o.succ) 0 = {0} := by
  dsimp only [rd]; rw [if_pos rfl, kindOf_recv]; exact if_neg (Fin.succ_ne_zero o)
theorem duties_later (g : GSem nD τ sig) : ∀ r, 1 ≤ r → (rd (F := F) m ρ).duties g r = ∅ :=
  fun r hr => by dsimp only [rd]; exact if_neg (by omega)
theorem duties_send0 : ∀ r, 0 ≤ r → (rd (F := F) m ρ).duties (sendCell c 0) r = ∅ :=
  fun r _ => by dsimp only [rd]; rw [kindOf_send]; split <;> rfl
theorem duties_recv0 : ∀ r, 0 ≤ r → (rd (F := F) m ρ).duties (recvCell c 0) r = ∅ :=
  fun r _ => by dsimp only [rd]; rw [kindOf_recv]; split <;> rfl

theorem amount_bar (d : Fin 7) : (rd (F := F) m ρ).amount (barCell c) 0 d = 1 := by dsimp only [rd]; rw [kindOf_bar]
theorem amount_send (n : Fin 8) (d : Fin 7) : (rd (F := F) m ρ).amount (sendCell c n) 0 d = N := by dsimp only [rd]; rw [kindOf_send]
theorem amount_recv (n : Fin 8) (d : Fin 7) : (rd (F := F) m ρ).amount (recvCell c n) 0 d = N := by dsimp only [rd]; rw [kindOf_recv]

theorem expect_bar : (rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send (o : Fin 7) : (rd (F := F) m ρ).expect (sendCell c o.succ) 0 = N := by
  unfold Schedule.expect Schedule.amountOf; rw [duties_send, Finset.sum_singleton, amount_send]
theorem expect_recv (o : Fin 7) : (rd (F := F) m ρ).expect (recvCell c o.succ) 0 = N := by
  unfold Schedule.expect Schedule.amountOf; rw [duties_recv, Finset.sum_singleton, amount_recv]

theorem payload_bar (d : Fin 7) : (rd (F := F) m ρ).payload (barCell c) 0 d = barPay c d := by dsimp only [rd]; rw [kindOf_bar]
theorem payload_send (n : Fin 8) (d : Fin 7) : (rd (F := F) m ρ).payload (sendCell c n) 0 d = sendPay m ρ c n := by dsimp only [rd]; rw [kindOf_send]
theorem payload_recv (n : Fin 8) (d : Fin 7) : (rd (F := F) m ρ).payload (recvCell c n) 0 d = recvPay m ρ c n := by dsimp only [rd]; rw [kindOf_recv]

theorem rest_bar : bigSep ((rd (F := F) m ρ).duties (barCell c) 0 \ ∅) (fun d => (rd (F := F) m ρ).payload (barCell c) 0 d)
    = bigSep Finset.univ fun e : Fin 7 => barPay c e := by
  rw [Finset.sdiff_empty, duties_bar]; exact bigSep_congr fun d _ => payload_bar m ρ c d
theorem rest_send (o : Fin 7) : bigSep ((rd (F := F) m ρ).duties (sendCell c o.succ) 0 \ ∅) (fun d => (rd (F := F) m ρ).payload (sendCell c o.succ) 0 d)
    = sendPay m ρ c o.succ := by
  rw [Finset.sdiff_empty, duties_send, bigSep_singleton, payload_send]
theorem rest_recv (o : Fin 7) : bigSep ((rd (F := F) m ρ).duties (recvCell c o.succ) 0 \ ∅) (fun d => (rd (F := F) m ρ).payload (recvCell c o.succ) 0 d)
    = recvPay m ρ c o.succ := by
  rw [Finset.sdiff_empty, duties_recv, bigSep_singleton, payload_recv]

end Sched

/-! ## What each device owes at launch, and the levels -/

/-- The receive credits of the copies still to make, -/
def owedRecv (c : Dev nD) : List (Fin 7) → CellTallies nD τ sig Unit
  | [] => 0
  | o :: l => owedRecv c l + tallyAt (recvCell (fwd c o) o.succ) () N
abbrev all7 : List (Fin 7) := [0, 1, 2, 3, 4, 5, 6]
/-- and before them the barrier units of the signals still to make. -/
def owedBar (c : Dev nD) : List (Fin 7) → CellTallies nD τ sig Unit
  | [] => owedRecv c all7
  | o :: l => owedBar c l + tallyAt (barCell (fwd c o)) () 1
def O₀ (c : Dev nD) : CellTallies nD τ sig Unit := owedBar c all7

def L (g : GSem nD τ sig) : Finset Unit := if g.1.2 = .tc then {()} else ∅
/-- Barrier cells at 1, receive cells at 2, everything else at 0. -/
def lv (g : GSem nD τ sig) (_ : Unit) : ℕ := match kindOf g with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kindOf_bar]
theorem lv_recv (c : Dev nD) (n : Fin 8) (u : Unit) : lv (recvCell c n) u = 2 := by unfold lv; rw [kindOf_recv]

theorem owedRecv_pos {c : Dev nD} {g : GSem nD τ sig} {u : Unit} : ∀ {l : List (Fin 7)}, 0 < owedRecv c l g u → ∃ o, g = recvCell (fwd c o) o.succ
  | [], h => absurd h (Nat.lt_irrefl 0)
  | o :: l, h => by
    unfold owedRecv at h
    rw [Pi.add_apply, Finsupp.add_apply, tallyAt_apply] at h
    by_cases h' : g = recvCell (fwd c o) o.succ ∧ u = ()
    · exact ⟨o, h'.1⟩
    · rw [if_neg h', Nat.add_zero] at h; exact owedRecv_pos h
theorem owedBar_pos {c : Dev nD} {g : GSem nD τ sig} {u : Unit} :
    ∀ {l : List (Fin 7)}, 0 < owedBar c l g u → (∃ o, g = recvCell (fwd c o) o.succ) ∨ ∃ o, g = barCell (fwd c o)
  | [], h => .inl (owedRecv_pos h)
  | o :: l, h => by
    unfold owedBar at h
    rw [Pi.add_apply, Finsupp.add_apply, tallyAt_apply] at h
    by_cases h' : g = barCell (fwd c o) ∧ u = ()
    · exact .inr ⟨o, h'.1⟩
    · rw [if_neg h', Nat.add_zero] at h; exact owedBar_pos h

omit [FloatOps F] [Named F] in
theorem mayWait_stage (c : Dev nD) (q : DmaSem sig) (hq : ∀ n, q ≠ recvS n) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedBar_pos hg with ⟨o, rfl⟩ | ⟨o, rfl⟩ <;> exact Finset.mem_singleton_self _)
      (fun p hp => by
        rw [Finset.mem_singleton.mp hp]; unfold lv
        split
        · rename_i h; unfold kindOf at h; split at h
          · rename_i h2; have h3 := h2.choose_spec; rw [Option.some.inj h] at h3; cases h3
          · cases h
        · rename_i n h; unfold kindOf at h; split at h
          · rename_i h2; have h3 := h2.choose_spec; rw [Option.some.inj h] at h3; exact absurd (SemLoc.dma.inj h3).symm (hq n)
          · cases h
        · exact le_refl _)
      (fun g u hg => by
        rcases owedBar_pos hg with ⟨o, rfl⟩ | ⟨o, rfl⟩
        · rw [lv_recv]; decide
        · rw [lv_bar]; decide)
  · rw [MayWait_zero]; iintro -; iempintro

omit [FloatOps F] [Named F] in
/-- At its barrier wait a device owes receive credits only. -/
theorem mayWait_bar (c : Dev nD) : (levAts L lv : sProp 𝕄) ⊢ MayWait (c : Thread nD τ) (.reg barS) () (owedRecv c all7) :=
  MayOwe.of_cut (L := L) (lev := lv) 1 (fun p hp => by rw [Finset.mem_singleton.mp hp, L_tc]; exact Finset.mem_singleton_self _)
    (fun g u hg => by obtain ⟨o, rfl⟩ := owedRecv_pos hg; exact Finset.mem_singleton_self _)
    (fun p hp => by rw [Finset.mem_singleton.mp hp]; exact le_of_eq (lv_bar c _))
    (fun g u hg => by obtain ⟨o, rfl⟩ := owedRecv_pos hg; rw [lv_recv]; decide)

/-! ## The ghost state a device starts from -/

/-- Every cell's invariant, under the names `K` the launch allocated them at, and that every cell has reached round 0. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (rd m ρ) (K ck) (kcell ck) :=
  show iprop((bigSep Finset.univ fun ck : Dev nD × CK => cellInv ER (rd m ρ) (K ck) (kcell ck)) ∗ _) ⊢ _ from
  sep_elim_left.trans (bigSep_elim (Finset.mem_univ ck))
theorem reached_at (K : Dev nD × CK → ℕ) (ck : Dev nD × CK) : records m ρ K ⊢ reached ER (kcell ck) 0 :=
  show iprop(_ ∗ bigSep Finset.univ fun ck : Dev nD × CK => reached ER (kcell ck) 0) ⊢ _ from
  sep_elim_right.trans (bigSep_elim (Finset.mem_univ ck))

/-- The tokens of the duties device `c` pays: signal `o` the barrier duty of `fwd c o` under the name that device has for
    `c`; copy `o` the receive duty of `fwd c o` and its own send duty. -/
def payToks (c : Dev nD) : sProp 𝕄 :=
  iprop((bigSep Finset.univ fun o : Fin 7 => dutyTok ER (barCell (fwd c o)) 0 o.rev)
    ∗ (bigSep Finset.univ fun o : Fin 7 => dutyTok ER (recvCell (fwd c o) o.succ) 0 0)
    ∗ bigSep Finset.univ fun o : Fin 7 => dutyTok ER (sendCell c o.succ) 0 0)
/-- Its positions at round 0 of its own cells. -/
def positions (c : Dev nD) : sProp 𝕄 := bigSep Finset.univ fun k : CK => atPos ER (kcell (c, k)) 0 ∅ 0

def ghost (K : Dev nD × CK → ℕ) (c : Dev nD) : sProp 𝕄 := iprop(records m ρ K ∗ positions c ∗ payToks c)

/-- The credits it is dealt: its barrier's seven units, each receive cell's credit. -/
def credits (c : Dev nD) : sProp 𝕄 :=
  iprop(cred (tallyAt (barCell c) () 7) ∗ bigSep Finset.univ fun o : Fin 7 => cred (tallyAt (recvCell c o.succ) () N))

omit [FloatOps F] [Named F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] [Named F] in
theorem bigSep_fin8 (Φ : Fin 8 → sProp 𝕄) : bigSep Finset.univ Φ = iprop(Φ 0 ∗ bigSep Finset.univ fun o : Fin 7 => Φ o.succ) := by
  rw [bigSep_fin7]
  exact bigSep_univ_eq_bigSepL [0, 1, 2, 3, 4, 5, 6, 7] (by decide) (by decide) Φ
omit [FloatOps F] [Named F] in
theorem bigSep_CK (Φ : CK → sProp 𝕄) : bigSep Finset.univ Φ
    = iprop(Φ (.inl ()) ∗ (bigSep Finset.univ fun n => Φ (.inr (.inl n))) ∗ bigSep Finset.univ fun n => Φ (.inr (.inr n))) := by
  rw [bigSep_univ_sum, bigSep_univ_sum]
  congr 1
  exact bigSep_univ_eq_bigSepL [()] (by decide) (by decide) _

end Cert.Exchange
-- ==== Proof.Contents.lean ====
/-
# The exchange buffer's slots: element sets, what loads read, what stores and copies leave
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

theorem slot_set (n : Fin 8) : (slotM n).view.set = (slotR n).set :=
  (View.set_reshape _ _).trans (View.set_slice_whole cc0_scratch0 (slotR n))

theorem mem_slot {n : Fin 8} {i : S8x2x512x128.Idx} : i ∈ (slotR n).set ↔ (i 0).val = n.val := by
  rw [Rect.mem_set_unit]
  constructor
  · intro h
    have h0 := h 0
    have h1 : n.val ≤ (i 0).val ∧ (i 0).val < n.val + 1 := h0
    omega
  · intro h a
    fin_cases a
    · show n.val ≤ (i 0).val ∧ (i 0).val < n.val + 1
      omega
    · exact ⟨Nat.zero_le _, by show (i 1).val < 0 + 2; have := (i 1).isLt; exact lt_of_lt_of_eq this rfl⟩
    · exact ⟨Nat.zero_le _, by show (i 2).val < 0 + 512; have := (i 2).isLt; exact lt_of_lt_of_eq this rfl⟩
    · exact ⟨Nat.zero_le _, by show (i 3).val < 0 + 128; have := (i 3).isLt; exact lt_of_lt_of_eq this rfl⟩

theorem mem_piece {n : Fin 8} {j : Fin 2} {i : S8x2x512x128.Idx} : i ∈ (pieceR n j).set ↔ (i 0).val = n.val ∧ (i 1).val = j.val := by
  rw [Rect.mem_set_unit]
  constructor
  · intro h
    have h0 : n.val ≤ (i 0).val ∧ (i 0).val < n.val + 1 := h 0
    have h1 : j.val ≤ (i 1).val ∧ (i 1).val < j.val + 1 := h 1
    omega
  · intro h a
    fin_cases a
    · show n.val ≤ (i 0).val ∧ (i 0).val < n.val + 1
      omega
    · show j.val ≤ (i 1).val ∧ (i 1).val < j.val + 1
      omega
    · exact ⟨Nat.zero_le _, by show (i 2).val < 0 + 512; have := (i 2).isLt; exact lt_of_lt_of_eq this rfl⟩
    · exact ⟨Nat.zero_le _, by show (i 3).val < 0 + 128; have := (i 3).isLt; exact lt_of_lt_of_eq this rfl⟩

theorem piece_sub (n : Fin 8) (j : Fin 2) : (pieceR n j).set ⊆ (slotR n).set := fun i hi => mem_slot.mpr (mem_piece.mp hi).1

theorem load_sub (n : Fin 8) (j : Fin 2) : rM.view.setOn (pieceR n j).toLoadRect.set ⊆ (slotM n).view.set := by
  rw [slot_set]
  refine fun i hi => piece_sub n j ?_
  obtain ⟨x, hx, rfl⟩ := Finset.mem_map.mp hi
  exact hx
theorem store_sub (n : Fin 8) (j : Fin 2) : (rM.access (pieceR n j)).setOn Finset.univ ⊆ (slotM n).view.set := by
  rw [slot_set]
  exact (Finset.Subset.trans (by rw [View.setOn_univ]; exact (View.set_slice_whole cc0_scratch0 (pieceR n j)).le) (piece_sub n j))

theorem exists_piece {n : Fin 8} {j : Fin 2} {i : S8x2x512x128.Idx} (h : i ∈ (pieceR n j).set) : ∃ x, (pieceR n j).emb x = i := by
  rw [← Rect.map_emb_univ] at h
  obtain ⟨x, -, rfl⟩ := Finset.mem_map.mp h
  exact ⟨x, rfl⟩

/-- Where a piece's element sits in the buffer. -/
theorem piece_emb (n : Fin 8) (j : Fin 2) (x : S1x1x512x128.Idx) :
    (((pieceR n j).emb x : S8x2x512x128.Idx) 1).val = j.val ∧ inner ((pieceR n j).emb x) = x := by
  constructor
  · show j.val + 1 * (x 1).val = j.val
    have : (x 1).val < 1 := (x 1).isLt
    omega
  · funext a
    fin_cases a
    · exact Fin.ext (by show 0 = (x 0).val; have : (x 0).val < 1 := (x 0).isLt; omega)
    · exact Fin.ext (by show 0 = (x 1).val; have : (x 1).val < 1 := (x 1).isLt; omega)
    · exact Fin.ext (by show 0 + 1 * (x 2).val = (x 2).val; omega)
    · exact Fin.ext (by show 0 + 1 * (x 3).val = (x 3).val; omega)

theorem canon_key (d : Dev nD) (n : Fin 8) (x : S1x1x512x128.Idx) : canon m ρ d ((pieceR n 0).emb x) = kpay m ρ d x := by
  obtain ⟨h1, h2⟩ := piece_emb n 0 x
  unfold canon; exact (if_pos h1).trans (congrArg _ h2)
theorem canon_val (d : Dev nD) (n : Fin 8) (x : S1x1x512x128.Idx) : canon m ρ d ((pieceR n 1).emb x) = vpay m ρ d x := by
  obtain ⟨h1, h2⟩ := piece_emb n 1 x
  unfold canon; exact (if_neg (by rw [h1]; decide)).trans (congrArg _ h2)

/-- What the body's loads of a slot's pieces read. -/
theorem read_key (d : Dev nD) (n : Fin 8) : rM.view.readAt (Elt F) (pieceR n 0).toLoadRect (canon m ρ d) = kpay m ρ d :=
  funext fun x => canon_key m ρ d n x
theorem read_val (d : Dev nD) (n : Fin 8) : rM.view.readAt (Elt F) (pieceR n 1).toLoadRect (canon m ρ d) = vpay m ρ d :=
  funext fun x => canon_val m ρ d n x

/-- After the two stores slot 0 holds the device's own block. -/
theorem stored_eq (c : Dev nD) (f : Buf (Elt F) ((c : Thread nD τ).loc cc0_scratch0)) :
    slotPts c 0 fullShare ((rM.access (pieceR 0 1)).write (Elt F) ((rM.access (pieceR 0 0)).write (Elt F) f (kpay m ρ c) Finset.univ) (vpay m ρ c) Finset.univ)
      = slotPts c 0 fullShare (canon m ρ c) := by
  unfold slotPts
  refine pointsTo_congr fun i hi => ?_
  rw [slot_set] at hi
  have h0 := mem_slot.mp hi
  by_cases h1 : (i 1).val = 0
  · have hmem : i ∈ (pieceR 0 0).set := mem_piece.mpr ⟨h0, h1⟩
    obtain ⟨x, rfl⟩ := exists_piece hmem
    rw [canon_key]
    refine (View.write_of_not_mem _ _ _ ?_).trans ?_
    · intro hm
      have h2 : (pieceR 0 0).emb x ∈ (pieceR 0 1).set := by
        rw [View.setOn_univ] at hm; exact (View.set_slice_whole cc0_scratch0 (pieceR 0 1)).le hm
      have h3 := (mem_piece.mp h2).2
      rw [h1] at h3; exact absurd h3 (by decide)
    · exact View.write_emb_of_mem (v := (rM.access (pieceR 0 0))) _ _ (Finset.mem_univ x)
  · have h1' : (i 1).val = 1 := by have : (i 1).val < 2 := (i 1).isLt; omega
    have hmem : i ∈ (pieceR 0 1).set := mem_piece.mpr ⟨h0, h1'⟩
    obtain ⟨x, rfl⟩ := exists_piece hmem
    rw [canon_val]
    exact View.write_emb_of_mem (v := (rM.access (pieceR 0 1))) _ _ (Finset.mem_univ x)

/-- A slot's element, its slot forgotten, is the same whichever slot. -/
theorem slot_emb (d : Dev nD) (n : Fin 8) (z : S1x2x512x128.Idx) : canon m ρ d ((slotR n).emb z) = canon m ρ d ((slotR 0).emb z) := by
  have h1 : (((slotR n).emb z : S8x2x512x128.Idx) 1) = (((slotR 0).emb z : S8x2x512x128.Idx) 1) := rfl
  have h2 : inner ((slotR n).emb z) = inner ((slotR 0).emb z) := by
    funext a; fin_cases a <;> rfl
  unfold canon; rw [h1, h2]

/-- What a copy of slot 0 of device `d` leaves in slot `n` of device `c`. -/
theorem landed_eq (c d : Dev nD) (n : Fin 8) (fd : Buf (Elt F) ((c : Thread nD τ).loc cc0_scratch0)) :
    slotPts c n fullShare ((slotM n).view.write (Elt F) fd ((slotM 0).view.read (Elt F) (canon m ρ d)) Finset.univ) = slotPts c n fullShare (canon m ρ d) := by
  unfold slotPts
  refine pointsTo_congr fun i hi => ?_
  obtain ⟨z, -, rfl⟩ := Finset.mem_map.mp hi
  refine (View.write_emb_of_mem (v := (slotM n).view) _ _ (Finset.mem_univ z)).trans ?_
  exact (slot_emb m ρ d n _).symm

/-! ## The buffer as its slots -/

/-- The elements of slot `n`. -/
abbrev slotE (n : Fin 8) : Finset S8x2x512x128.Idx := (slotM n).view.set

theorem slots_disjoint (n n' : Fin 8) (h : n ≠ n') : Disjoint (slotE n) (slotE n') := by
  unfold slotE; rw [slot_set, slot_set, Finset.disjoint_left]
  intro i hi hi'
  exact h (Fin.ext ((mem_slot.mp hi).symm.trans (mem_slot.mp hi')))
theorem slots_cover : Finset.univ.biUnion (fun n : Fin 8 => slotE n) = Finset.univ := by
  ext i
  simp only [Finset.mem_biUnion, Finset.mem_univ, true_and, iff_true]
  exact ⟨⟨(i 0).val, (i 0).isLt⟩, by unfold slotE; rw [slot_set]; exact mem_slot.mpr rfl⟩

theorem slots_split (c : Dev nD) :
    iprop(∃ f : Buf (Elt F) ((c : Thread nD τ).loc cc0_scratch0), ((c : Thread nD τ).loc cc0_scratch0) ↦{fullShare} f)
      ⊢ (bigSep Finset.univ fun n : Fin 8 => iprop(∃ f, slotPts c n fullShare f) : sProp 𝕄) := by
  iintro ⟨%f, H⟩
  ihave H' := (Entails.of_eq (Ring.pointsTo_blocks (ℓ := (c : Thread nD τ).loc cc0_scratch0) slotE slots_disjoint slots_cover f)) $$ H
  iapply (show (bigSep Finset.univ fun n : Fin 8 => (((c : Thread nD τ).loc cc0_scratch0) ↦[(slotM n).view.set]{fullShare} f : sProp 𝕄)) ⊢ _ from
    bigSep_mono fun n _ => show slotPts c n fullShare f ⊢ _ from by iintro H; iexists f; iexact H)
  iexact H'

theorem slots_join (c : Dev nD) :
    (bigSep Finset.univ fun n : Fin 8 => slotPts c n fullShare (canon m ρ (src c n)) : sProp 𝕄)
      ⊢ iprop(∃ f : Buf (Elt F) ((c : Thread nD τ).loc cc0_scratch0), ((c : Thread nD τ).loc cc0_scratch0) ↦{fullShare} f) :=
  Ring.pointsTo_blocks_join (ℓ := (c : Thread nD τ).loc cc0_scratch0) slotE slots_disjoint slots_cover
    (fun n => canon m ρ (src c n)) (canon m ρ c)

/-! ## The staging buffers, read and written whole -/

abbrev r0 : Rect S512x128 := Rect.unit (s := S512x128) ![0, 0] S512x128.size inb_S512x128_S512x128_0_0

theorem hz : (![0, 0] : Fin 2 → Nat) = fun _ => 0 := funext fun a => by fin_cases a <;> rfl
theorem read_q (f : (cc0_stg0_0 : Ref sig .tc).ty.Contents (Elt F)) : qM.view.readAt (Elt F) r0.toLoadRect f = f :=
  Memref.readAt_unit_zero (Elt F) cc0_stg0_0 hz _ f
theorem read_k (f : (cc0_stg1_0 : Ref sig .tc).ty.Contents (Elt F)) : kM.view.readAt (Elt F) r0.toLoadRect f = f :=
  Memref.readAt_unit_zero (Elt F) cc0_stg1_0 hz _ f
theorem read_v (f : (cc0_stg2_0 : Ref sig .tc).ty.Contents (Elt F)) : vM.view.readAt (Elt F) r0.toLoadRect f = f :=
  Memref.readAt_unit_zero (Elt F) cc0_stg2_0 hz _ f
theorem write_o (f w : (cc0_stg3_0 : Ref sig .tc).ty.Contents (Elt F)) : (oM.access r0 : View sig .tc _ _ _).write (Elt F) f w Finset.univ = w :=
  Memref.write_access_unit_zero_univ (Elt F) cc0_stg3_0 hz _ f w

end Cert.Exchange
-- ==== Proof.Steps.lean ====
/-
# One step of the exchange at a time, at a symbolic device and offset
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ)

abbrev 𝒱₀ : Variants := Variants.none

/-- What device `c` still owes, whichever waits it has made. -/
def owing (c : Dev nD) (O : CellTallies nD τ sig Unit) : sProp 𝕄 := iprop(∃ W, owes (c : Thread nD τ) O W)

abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps
variable {α : Type}

/-- Signal `o`: hands over the slot that the device signalled will fill. -/
theorem signal_step (c n : Dev nD) (o : Fin 7) (hn : n = fwd c o) (l : List (Fin 7)) {k : PUnit → Prog (TpuEff nD τ sig (Elt F) Λ₀ .tc) α} {Q : α → sProp 𝕄} :
    iprop(records m ρ K ∗ owing c (owedBar c (o :: l)) ∗ dutyTok ER (barCell (fwd c o)) 0 o.rev ∗ ∃ f, slotPts (F := F) c o.rev.succ fullShare f)
      ⊢ iprop((owing c (owedBar c l) -∗ Run c (k ⟨⟩) Q) -∗ Run c (.op (.semSignal (n : Thread nD τ) barS ((1 : ℕ) : ℤ)) k) Q) := by
  subst hn
  unfold owing
  iintro ⟨#HR, ⟨%W, HO⟩, Ht, Hs⟩ Hk
  ihave #HI := (inv_at m ρ K (fwd c o, .inl ())) $$ HR
  ihave #Hr := (reached_at m ρ K (fwd c o, .inl ())) $$ HR
  iapply (Rounds.wp_signal 𝒱₀ ER (rd m ρ) (c : Thread nD τ) none (dst := (fwd c o : Thread nD τ)) (κ := K (fwd c o, .inl ()))
      (d := o.rev) (by rw [duties_bar]; exact Finset.mem_univ _) (amount_bar m ρ (fwd c o) o.rev) () (owedBar c l) rfl)
    $$ [HO Ht Hs]
  · isplitr; · iexact HI
    isplitl [HO]; · iexact HO
    isplitl [Ht]; · iexact Ht
    isplitl [Hs]; · rw [payload_bar]; unfold barPay; rw [fwd_rev]; iexact Hs
    iexact Hr
  iintro HO
  iapply Hk
  iexists W; iexact HO

/-- The barrier wait: the seven other devices' slots come with it. -/
theorem barrier_step (c : Dev nD) {k : PUnit → Prog (TpuEff nD τ sig (Elt F) Λ₀ .tc) α} {Q : α → sProp 𝕄} :
    iprop(records m ρ K ∗ levAts L lv ∗ owing c (owedBar c []) ∗ cred (tallyAt (barCell c) () 7) ∗ atPos ER (barCell c) 0 ∅ 0)
      ⊢ iprop(((owing c (owedRecv c all7) ∗ (bigSep Finset.univ fun o : Fin 7 => barPay c o) ∗ semVal (barCell c) 0) -∗ Run c (k ⟨⟩) Q)
        -∗ Run c (.op (.semWait barS ((7 : ℕ) : ℤ)) k) Q) := by
  unfold owing owedBar
  iintro ⟨#HR, #Hlev, ⟨%W, HO⟩, Hc, Ha⟩ Hk
  ihave #HI := (inv_at m ρ K (c, .inl ())) $$ HR
  iapply (Rounds.wp_wait_rest_token 𝒱₀ ER (rd m ρ) (c : Thread nD τ) none (κ := K (c, .inl ()))
      (wpE_semWait_eq 𝒱₀ (c : Thread nD τ) none Set.univ) (Set.mem_univ _) () (O := owedRecv c all7) (W := W) (R := 0) (m := 0) (T := ∅)
      (by rw [expect_bar])) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  imod (Rounds.cell_close ER (rd m ρ) (Set.mem_univ (K (c, .inl ()))) (fun h => h) (R := 0 + 1) (duties_later m ρ (barCell c))) $$ [Ha] with Hz
  · isplitr; · iexact HI
    iexact Ha
  ihave Hp' := (Entails.of_eq (rest_bar m ρ c)) $$ Hp
  iapply Hk
  isplitl [HO]; · iexists _; iexact HO
  isplitl [Hp'] <;> iassumption

theorem copy_credit (n : Fin 8) (sm : DmaSem sig) : (slotM n).view.amount (.dma sm) = N := rfl

set_option maxHeartbeats 1600000 in
/-- Copy `o`: a share of the device's own slot out, the slot it was handed filled. -/
theorem copy_step (c n : Dev nD) (o : Fin 7) (hn : n = fwd c o) (l : List (Fin 7)) {k : PUnit → Prog (TpuEff nD τ sig (Elt F) Λ₀ .tc) α} {Q : α → sProp 𝕄}
    {hsc : (slotM o.succ : Memref sig (Dev.tc n : Thread nD τ).2.kind .vmem S2x512x128 .bf16).view.ref.isScScratch = false}
    {hsrc : (slotM 0).view.WordExact} {hdst : (slotM o.succ).view.WordExact}
    {hsem : DmaTarget.Typed .vmem (.dma (recvS o.succ)) (.remote (Dev.tc n : Thread nD τ) (slotM o.succ) (.dma (sendS o.succ)) hsc)} :
    iprop(records m ρ K ∗ slotPts c 0 (tok o.succ) (canon m ρ c) ∗ barPay c o ∗ owing c (owedRecv c (o :: l))
        ∗ dutyTok ER (recvCell (fwd c o) o.succ) 0 0 ∗ dutyTok ER (sendCell c o.succ) 0 0)
      ⊢ iprop(((cred (tallyAt (sendCell c o.succ) () N) ∗ owing c (owedRecv c l)) -∗ Run c (k ⟨⟩) Q)
        -∗ Run c (.op (.enqueueDma (slotM 0) (.remote (Dev.tc n : Thread nD τ) (slotM o.succ) (.dma (sendS o.succ)) hsc) (.dma (recvS o.succ)) hsrc hdst hsem) k) Q) := by
  subst hn
  unfold owing barPay
  iintro ⟨#HR, Hs, ⟨%fd, Hd⟩, ⟨%W, HO⟩, Ht, Ht'⟩ Hk
  ihave #HI := (inv_at m ρ K (c, .inr (.inl o.succ))) $$ HR
  ihave #HI' := (inv_at m ρ K (fwd c o, .inr (.inr o.succ))) $$ HR
  ihave #Hr := (reached_at m ρ K (c, .inr (.inl o.succ))) $$ HR
  ihave #Hr' := (reached_at m ρ K (fwd c o, .inr (.inr o.succ))) $$ HR
  iapply (Rounds.wp_send_pointsTo 𝒱₀ ER (rd m ρ) (c : Thread nD τ) none (κ₁ := K (c, .inr (.inl o.succ))) (κ₂ := K (fwd c o, .inr (.inr o.succ)))
    (r₁ := 0) (r₂ := 0) (d₁ := 0) (d₂ := 0) (q := tok o.succ) (fs := canon m ρ c) (fd := fd)
    (by rw [duties_send]; exact Finset.mem_singleton_self _) (by rw [duties_recv]; exact Finset.mem_singleton_self _)
    () () N (copy_credit o.succ _) (amount_send m ρ c o.succ 0) (amount_recv m ρ (fwd c o) o.succ 0) (owedRecv c l) rfl (W := W)
    (by rw [payload_send]; exact BI.Entails.refl _)
    (by rw [payload_recv]; unfold recvPay; rw [src_fwd]; exact Entails.of_eq (landed_eq m ρ (fwd c o) c o.succ fd))) $$ [Hs Hd HO Ht Ht']
  · isplitr; · iexact HI
    isplitr; · iexact HI'
    isplitl [Hs]; · unfold slotPts; iexact Hs
    isplitl [Hd]; · unfold slotPts; iexact Hd
    isplitl [HO]; · iexact HO
    isplitl [Ht']; · iexact Ht'
    isplitr; · iexact Hr
    isplitl [Ht]; · iexact Ht
    iexact Hr'
  iintro ⟨Hc, HO⟩
  iapply Hk
  isplitl [Hc]; · iexact Hc
  iexists W; iexact HO

/-- The wait for the block in slot `o + 1`. -/
theorem recv_step (c : Dev nD) (o : Fin 7) {k : PUnit → Prog (TpuEff nD τ sig (Elt F) Λ₀ .tc) α} {Q : α → sProp 𝕄}
    {sM : Memref sig .tc .vmem S2x512x128 .bf16} {h1 : sM.view.WordExact} {h2 : (slotM o.succ).view.WordExact} :
    iprop(records m ρ K ∗ cred (tallyAt (recvCell c o.succ) () N) ∗ owing c 0 ∗ atPos ER (recvCell c o.succ) 0 ∅ 0)
      ⊢ iprop(((owing c 0 ∗ slotPts c o.succ fullShare (canon m ρ (src c o.succ)) ∗ semVal (recvCell c o.succ) 0) -∗ Run c (k ⟨⟩) Q)
        -∗ Run c (.op (.waitDma2 (recvS o.succ) sM (slotM o.succ) h1 h2) k) Q) := by
  unfold owing
  iintro ⟨#HR, Hc, ⟨%W, HO⟩, Ha⟩ Hk
  ihave #HI := (inv_at m ρ K (c, .inr (.inr o.succ))) $$ HR
  iapply (Rounds.wp_wait_rest_token 𝒱₀ ER (rd m ρ) (c : Thread nD τ) none (κ := K (c, .inr (.inr o.succ)))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iexact HI
    isplitl [Hc]; · iexact Hc
    isplitl [HO]; · iexact HO
    isplitr; · rw [MayWait_zero]; iempintro
    iexact Ha
  iintro ⟨HO, Ha, -, Hp⟩
  imod (Rounds.cell_close ER (rd m ρ) (Set.mem_univ (K (c, .inr (.inr o.succ)))) (fun h => h) (R := 0 + 1) (duties_later m ρ (recvCell c o.succ))) $$ [Ha] with Hz
  · isplitr; · iexact HI
    iexact Ha
  ihave Hp' := (Entails.of_eq (rest_recv m ρ c o)) $$ Hp
  unfold recvPay
  iapply Hk
  isplitl [HO]; · iexists _; iexact HO
  isplitl [Hp'] <;> iassumption

/-- The wait for the copy `o` to have left. -/
theorem sent_step (c : Dev nD) (o : Fin 7) {k : PUnit → Prog (TpuEff nD τ sig (Elt F) Λ₀ .tc) α} {Q : α → sProp 𝕄}
    {sM dM : Memref sig .tc .vmem S2x512x128 .bf16} {h1 : sM.view.WordExact} {h2 : dM.view.WordExact} (hN : dM.view.dmaCredit = N) :
    iprop(records m ρ K ∗ cred (tallyAt (sendCell c o.succ) () N) ∗ owing c 0 ∗ atPos ER (sendCell c o.succ) 0 ∅ 0)
      ⊢ iprop(((owing c 0 ∗ slotPts c 0 (tok o.succ) (canon m ρ c) ∗ semVal (sendCell c o.succ) 0) -∗ Run c (k ⟨⟩) Q)
        -∗ Run c (.op (.waitDma2 (sendS o.succ) sM dM h1 h2) k) Q) := by
  unfold owing
  iintro ⟨#HR, Hc, ⟨%W, HO⟩, Ha⟩ Hk
  ihave #HI := (inv_at m ρ K (c, .inr (.inl o.succ))) $$ HR
  iapply (Rounds.wp_wait_rest_token 𝒱₀ ER (rd m ρ) (c : Thread nD τ) none (κ := K (c, .inr (.inl o.succ)))
      (wpE_waitDma2_eq 𝒱₀ (c : Thread nD τ) none Set.univ) (Set.mem_univ _) () (O := 0) (W := W) (R := 0) (m := 0) (T := ∅)
      (by rw [Nat.zero_add, expect_send, hN])) $$ [Hc HO Ha]
  · isplitr; · iexact HI
    isplitl [Hc]; · rw [hN]; iexact Hc
    isplitl [HO]; · iexact HO
    isplitr; · rw [MayWait_zero]; iempintro
    iexact Ha
  iintro ⟨HO, Ha, -, Hp⟩
  imod (Rounds.cell_close ER (rd m ρ) (Set.mem_univ (K (c, .inr (.inl o.succ)))) (fun h => h) (R := 0 + 1) (duties_later m ρ (sendCell c o.succ))) $$ [Ha] with Hz
  · isplitr; · iexact HI
    iexact Ha
  ihave Hp' := (Entails.of_eq (rest_send m ρ c o)) $$ Hp
  unfold sendPay
  iapply Hk
  isplitl [HO]; · iexists _; iexact HO
  isplitl [Hp'] <;> iassumption

/-- A slot's keys loaded, -/
theorem load_key (c d : Dev nD) (n : Fin 8) (q : PosShare TreeShare) {hl : rM.view.LoadsAt (pieceR n 0).toLoadRect}
    {k : ((pieceR n 0).toLoadRect.shape.Idx → Elt F .bf16) → Prog (TpuEff nD τ sig (Elt F) Λ₀ .tc) α} {Q : α → sProp 𝕄} :
    slotPts c n q (canon m ρ d) ⊢ iprop((slotPts c n q (canon m ρ d) -∗ Run c (k (kpay m ρ d)) Q) -∗ Run c (.op (.load rM (pieceR n 0).toLoadRect hl) k) Q) := by
  unfold slotPts
  iintro H Hk
  iapply (wp_load 𝒱₀ (c : Thread nD τ) none Set.univ (m := rM) (load_sub n 0)) $$ H; iintro H
  rw [read_key]
  iapply Hk; iexact H
/-- and its values. -/
theorem load_val (c d : Dev nD) (n : Fin 8) (q : PosShare TreeShare) {hl : rM.view.LoadsAt (pieceR n 1).toLoadRect}
    {k : ((pieceR n 1).toLoadRect.shape.Idx → Elt F .bf16) → Prog (TpuEff nD τ sig (Elt F) Λ₀ .tc) α} {Q : α → sProp 𝕄} :
    slotPts c n q (canon m ρ d) ⊢ iprop((slotPts c n q (canon m ρ d) -∗ Run c (k (vpay m ρ d)) Q) -∗ Run c (.op (.load rM (pieceR n 1).toLoadRect hl) k) Q) := by
  unfold slotPts
  iintro H Hk
  iapply (wp_load 𝒱₀ (c : Thread nD τ) none Set.univ (m := rM) (load_sub n 1)) $$ H; iintro H
  rw [read_val]
  iapply Hk; iexact H

end Steps

end Cert.Exchange
-- ==== Proof.Parts.lean ====
/-
# The kernel body, part by part
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ)

/-! ## What each step consumes and leaves -/

/-- For signal `o`: its duty's token, and the slot it hands over. -/
def sigRes (c : Dev nD) (o : Fin 7) : sProp 𝕄 := iprop(dutyTok ER (barCell (fwd c o)) 0 o.rev ∗ ∃ f, slotPts (F := F) c o.rev.succ fullShare f)
/-- For copy `o`: a share of the slot it reads, the slot it fills, its two duties' tokens. -/
def copyRes (c : Dev nD) (o : Fin 7) : sProp 𝕄 :=
  iprop(slotPts c 0 (tok o.succ) (canon m ρ c) ∗ barPay (F := F) c o ∗ dutyTok ER (recvCell (fwd c o) o.succ) 0 0 ∗ dutyTok ER (sendCell c o.succ) 0 0)
/-- For a wait: the credit and the position. -/
def waitRes (g : GSem nD τ sig) : sProp 𝕄 := iprop(cred (tallyAt g () N) ∗ atPos ER g 0 ∅ 0)
/-- After the wait for block `o`; -/
def recvDone (c : Dev nD) (o : Fin 7) : sProp 𝕄 := iprop(slotPts c o.succ fullShare (canon m ρ (src c o.succ)) ∗ semVal (recvCell c o.succ) 0)
/-- after the wait for copy `o` to have left. -/
def sentDone (c : Dev nD) (o : Fin 7) : sProp 𝕄 := iprop(slotPts c 0 (tok o.succ) (canon m ρ c) ∗ semVal (sendCell c o.succ) 0)

theorem run_done {α : Type} {c : Dev nD} {a : α} {Q : α → sProp 𝕄} : Q a ⊢ Run (F := F) c (.ret a) Q := by
  unfold Run
  rw [wp_ret]
  iintro H
  imodintro
  iexact H

section Parts
variable (c : Dev nD)

theorem part1_run {Q : _ → sProp 𝕄} :
    iprop(records m ρ K ∗ owing c (owedBar c [0, 1, 2, 3, 4, 5, 6]) ∗ sigRes c 0 ∗ sigRes c 1)
      ⊢ iprop((∀ v2 v30 x v31, owing c (owedBar c [2, 3, 4, 5, 6]) -∗ Q ⟨c, v2, SemArray.scalar (sig.barrier 0 rfl), v30, x, v31⟩) -∗ Run (F := F) c (k0_part1 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 ) Q) := by
  rw [k0_part1_eq_skeleton]; unfold k0_part1_skel
  simp only [semSignalWord, semWaitWord, Prog.lift, Prog.bind_op, Prog.bind_ret, Prog.pure_eq_ret, wp_deviceId]
  iintro ⟨#HR, HO, H0, H1⟩ Hk
  iapply (signal_step m ρ K c _ 0 (dev1_eq c) [1, 2, 3, 4, 5, 6]) $$ [HO H0]
  · isplitr; · iexact HR
    isplitl [HO]; · iexact HO
    unfold sigRes; iexact H0
  iintro HO
  iapply (signal_step m ρ K c _ 1 (dev2_eq c) [2, 3, 4, 5, 6]) $$ [HO H1]
  · isplitr; · iexact HR
    isplitl [HO]; · iexact HO
    unfold sigRes; iexact H1
  iintro HO
  iapply run_done
  iapply Hk; iexact HO

theorem part2_run (v2 v30 x : BitVec 32) (v31 : BitVec 1) {Q : _ → sProp 𝕄} :
    iprop(records m ρ K ∗ owing c (owedBar c [2, 3, 4, 5, 6]) ∗ sigRes c 2 ∗ sigRes c 3)
      ⊢ iprop((∀ v59 v64 v65, owing c (owedBar c [4, 5, 6]) -∗ Q ⟨v59, v64, v65⟩) -∗ Run (F := F) c (k0_part2 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 c v2 (SemArray.scalar (sig.barrier 0 rfl)) v30 x v31) Q) := by
  rw [k0_part2_eq_skeleton]; unfold k0_part2_skel
  simp only [semSignalWord, semWaitWord, Prog.lift, Prog.bind_op, Prog.bind_ret, Prog.pure_eq_ret, wp_deviceId]
  iintro ⟨#HR, HO, H2, H3⟩ Hk
  iapply (signal_step m ρ K c _ 2 (dev3_eq c) [3, 4, 5, 6]) $$ [HO H2]
  · isplitr; · iexact HR
    isplitl [HO]; · iexact HO
    unfold sigRes; iexact H2
  iintro HO
  iapply (signal_step m ρ K c _ 3 (dev4_eq c) [4, 5, 6]) $$ [HO H3]
  · isplitr; · iexact HR
    isplitl [HO]; · iexact HO
    unfold sigRes; iexact H3
  iintro HO
  iapply run_done
  iapply Hk; iexact HO

theorem part3_run (v2 v59 : BitVec 32) (v64 : BitVec 1) (v65 : BitVec 32) {Q : _ → sProp 𝕄} :
    iprop(records m ρ K ∗ levAts L lv ∗ owing c (owedBar c [4, 5, 6]) ∗ sigRes c 4 ∗ sigRes c 5 ∗ sigRes c 6 ∗ cred (tallyAt (barCell c) () 7) ∗ atPos ER (barCell c) 0 ∅ 0)
      ⊢ iprop(((owing c (owedRecv c all7) ∗ (bigSep Finset.univ fun o : Fin 7 => barPay c o) ∗ semVal (barCell c) 0) -∗ Q ⟨⟩) -∗ Run (F := F) c (k0_part3 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 c v2 (SemArray.scalar (sig.barrier 0 rfl)) v59 v64 v65) Q) := by
  rw [k0_part3_eq_skeleton]; unfold k0_part3_skel
  simp only [semSignalWord, semWaitWord, Prog.lift, Prog.bind_op, Prog.bind_ret, Prog.pure_eq_ret, wp_deviceId]
  iintro ⟨#HR, #Hlev, HO, H4, H5, H6, Hc, Ha⟩ Hk
  iapply (signal_step m ρ K c _ 4 (dev5_eq c) [5, 6]) $$ [HO H4]
  · isplitr; · iexact HR
    isplitl [HO]; · iexact HO
    unfold sigRes; iexact H4
  iintro HO
  iapply (signal_step m ρ K c _ 5 (dev6_eq c) [6]) $$ [HO H5]
  · isplitr; · iexact HR
    isplitl [HO]; · iexact HO
    unfold sigRes; iexact H5
  iintro HO
  iapply (signal_step m ρ K c _ 6 (dev7_eq c) []) $$ [HO H6]
  · isplitr; · iexact HR
    isplitl [HO]; · iexact HO
    unfold sigRes; iexact H6
  iintro HO
  iapply (barrier_step m ρ K c) $$ [HO Hc Ha]
  · isplitr; · iexact HR
    isplitr; · iexact Hlev
    isplitl [HO]; · iexact HO
    isplitl [Hc] <;> iassumption
  iintro H
  iapply run_done
  iapply Hk; iexact H

/-- Device `c`'s staging buffer `b` holding `X`. -/
abbrev whole (c : Dev nD) (b : Ref sig .tc) (X : b.ty.Contents (Elt F)) : sProp 𝕄 := ((c : Thread nD τ).loc b) ↦{fullShare} X

theorem part4_run (v2 : BitVec 32) {Q : _ → sProp 𝕄} :
    iprop(whole c cc0_stg1_0 (kstg m ρ c) ∗ whole c cc0_stg2_0 (vstg m ρ c) ∗ ∃ f, slotPts c 0 fullShare f)
      ⊢ iprop((∀ v117, (whole c cc0_stg1_0 (kstg m ρ c) ∗ whole c cc0_stg2_0 (vstg m ρ c) ∗ slotPts c 0 fullShare (canon m ρ c)) -∗ Q v117) -∗ Run (F := F) c (k0_part4 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 v2) Q) := by
  rw [k0_part4_eq_skeleton]; unfold k0_part4_skel
  simp only [semSignalWord, semWaitWord, Prog.lift, Prog.bind_op, Prog.bind_ret, Prog.pure_eq_ret, wp_deviceId]
  iintro ⟨Hkk, Hv, ⟨%f, Hs⟩⟩ Hk
  iapply (wp_load 𝒱₀ (c : Thread nD τ) none Set.univ (m := kM) (Finset.subset_univ _)) $$ Hkk; iintro Hkk
  rw [read_k]
  iapply (wp_load 𝒱₀ (c : Thread nD τ) none Set.univ (m := rM) (load_sub 0 0)) $$ [Hs]
  · unfold slotPts; iexact Hs
  iintro Hs
  iapply (wp_store 𝒱₀ (c : Thread nD τ) none Set.univ (m := rM) (r := pieceR 0 0) (Mk := Finset.univ) (store_sub 0 0)) $$ Hs; iintro Hs
  iapply (wp_load 𝒱₀ (c : Thread nD τ) none Set.univ (m := vM) (Finset.subset_univ _)) $$ Hv; iintro Hv
  rw [read_v]
  iapply (wp_load 𝒱₀ (c : Thread nD τ) none Set.univ (m := rM) (load_sub 0 1)) $$ Hs; iintro Hs
  iapply (wp_store 𝒱₀ (c : Thread nD τ) none Set.univ (m := rM) (r := pieceR 0 1) (Mk := Finset.univ) (store_sub 0 1)) $$ Hs; iintro Hs
  ihave Hs' := (Entails.of_eq (stored_eq m ρ c f)) $$ [Hs]
  · unfold slotPts kpay vpay; iexact Hs
  iapply run_done
  iapply Hk
  isplitl [Hkk]; · iexact Hkk
  isplitl [Hv] <;> iassumption

theorem part5_run (v2 : BitVec 32) {Q : _ → sProp 𝕄} :
    iprop(records m ρ K ∗ owing c (owedRecv c [0, 1, 2, 3, 4, 5, 6]) ∗ copyRes m ρ c 0 ∗ copyRes m ρ c 1)
      ⊢ iprop((∀ v138 v151 v152 v153 v154 v155, (cred (tallyAt (sendCell c (Fin.succ 0)) () N) ∗ cred (tallyAt (sendCell c (Fin.succ 1)) () N) ∗ owing c (owedRecv c [2, 3, 4, 5, 6])) -∗ Q ⟨v138, v151, v152, v153, v154, v155⟩) -∗ Run (F := F) c (k0_part5 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 c v2) Q) := by
  rw [k0_part5_eq_skeleton]; unfold k0_part5_skel
  simp only [semSignalWord, semWaitWord, Prog.lift, Prog.bind_op, Prog.bind_ret, Prog.pure_eq_ret, wp_deviceId]
  iintro ⟨#HR, HO, H0, H1⟩ Hk
  iapply (copy_step m ρ K c _ 0 (dev8_eq c) [1, 2, 3, 4, 5, 6]) $$ [HO H0]
  · unfold copyRes
    icases H0 with ⟨H1, H2, H3, H4⟩
    isplitr; · iexact HR
    isplitl [H1]; · iexact H1
    isplitl [H2]; · iexact H2
    isplitl [HO]; · iexact HO
    isplitl [H3] <;> iassumption
  iintro ⟨Hc0, HO⟩
  iapply (copy_step m ρ K c _ 1 (dev9_eq c) [2, 3, 4, 5, 6]) $$ [HO H1]
  · unfold copyRes
    icases H1 with ⟨H1, H2, H3, H4⟩
    isplitr; · iexact HR
    isplitl [H1]; · iexact H1
    isplitl [H2]; · iexact H2
    isplitl [HO]; · iexact HO
    isplitl [H3] <;> iassumption
  iintro ⟨Hc1, HO⟩
  iapply run_done
  iapply Hk
  isplitl [Hc0]; · iexact Hc0
  isplitl [Hc1]; · iexact Hc1
  iexact HO

theorem part6_run (v2 v151 v152 : BitVec 32) (v153 v154 v155 : BitVec 1) {Q : _ → sProp 𝕄} :
    iprop(records m ρ K ∗ owing c (owedRecv c [2, 3, 4, 5, 6]) ∗ copyRes m ρ c 2)
      ⊢ iprop((∀ v159 v180, (cred (tallyAt (sendCell c (Fin.succ 2)) () N) ∗ owing c (owedRecv c [3, 4, 5, 6])) -∗ Q ⟨v159, v180⟩) -∗ Run (F := F) c (k0_part6 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 c v2 v151 v152 v153 v154 v155) Q) := by
  rw [k0_part6_eq_skeleton]; unfold k0_part6_skel
  simp only [semSignalWord, semWaitWord, Prog.lift, Prog.bind_op, Prog.bind_ret, Prog.pure_eq_ret, wp_deviceId]
  iintro ⟨#HR, HO, H2⟩ Hk
  iapply (copy_step m ρ K c _ 2 (dev10_eq c) [3, 4, 5, 6]) $$ [HO H2]
  · unfold copyRes
    icases H2 with ⟨H1, H2, H3, H4⟩
    isplitr; · iexact HR
    isplitl [H1]; · iexact H1
    isplitl [H2]; · iexact H2
    isplitl [HO]; · iexact HO
    isplitl [H3] <;> iassumption
  iintro ⟨Hc2, HO⟩
  iapply run_done
  iapply Hk
  isplitl [Hc2]; · iexact Hc2
  iexact HO

theorem part7_run (v2 : BitVec 32) {Q : _ → sProp 𝕄} :
    iprop(records m ρ K ∗ owing c (owedRecv c [3, 4, 5, 6]) ∗ copyRes m ρ c 3 ∗ copyRes m ρ c 4)
      ⊢ iprop((∀ v201 v214 v215 v216 x, (cred (tallyAt (sendCell c (Fin.succ 3)) () N) ∗ cred (tallyAt (sendCell c (Fin.succ 4)) () N) ∗ owing c (owedRecv c [5, 6])) -∗ Q ⟨v201, v214, v215, v216, x⟩) -∗ Run (F := F) c (k0_part7 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 c v2) Q) := by
  rw [k0_part7_eq_skeleton]; unfold k0_part7_skel
  simp only [semSignalWord, semWaitWord, Prog.lift, Prog.bind_op, Prog.bind_ret, Prog.pure_eq_ret, wp_deviceId]
  iintro ⟨#HR, HO, H3, H4⟩ Hk
  iapply (copy_step m ρ K c _ 3 (dev11_eq c) [4, 5, 6]) $$ [HO H3]
  · unfold copyRes
    icases H3 with ⟨H1, H2, H3, H4⟩
    isplitr; · iexact HR
    isplitl [H1]; · iexact H1
    isplitl [H2]; · iexact H2
    isplitl [HO]; · iexact HO
    isplitl [H3] <;> iassumption
  iintro ⟨Hc3, HO⟩
  iapply (copy_step m ρ K c _ 4 (dev12_eq c) [5, 6]) $$ [HO H4]
  · unfold copyRes
    icases H4 with ⟨H1, H2, H3, H4⟩
    isplitr; · iexact HR
    isplitl [H1]; · iexact H1
    isplitl [H2]; · iexact H2
    isplitl [HO]; · iexact HO
    isplitl [H3] <;> iassumption
  iintro ⟨Hc4, HO⟩
  iapply run_done
  iapply Hk
  isplitl [Hc3]; · iexact Hc3
  isplitl [Hc4]; · iexact Hc4
  iexact HO

theorem part8_run (v2 v214 v215 : BitVec 32) (v216 : BitVec 1) (x : BitVec 32) {Q : _ → sProp 𝕄} :
    iprop(records m ρ K ∗ owing c (owedRecv c [5, 6]) ∗ copyRes m ρ c 5)
      ⊢ iprop((∀ v222 v243, (cred (tallyAt (sendCell c (Fin.succ 5)) () N) ∗ owing c (owedRecv c [6])) -∗ Q ⟨v222, v243⟩) -∗ Run (F := F) c (k0_part8 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 c v2 v214 v215 v216 x) Q) := by
  rw [k0_part8_eq_skeleton]; unfold k0_part8_skel
  simp only [semSignalWord, semWaitWord, Prog.lift, Prog.bind_op, Prog.bind_ret, Prog.pure_eq_ret, wp_deviceId]
  iintro ⟨#HR, HO, H5⟩ Hk
  iapply (copy_step m ρ K c _ 5 (dev13_eq c) [6]) $$ [HO H5]
  · unfold copyRes
    icases H5 with ⟨H1, H2, H3, H4⟩
    isplitr; · iexact HR
    isplitl [H1]; · iexact H1
    isplitl [H2]; · iexact H2
    isplitl [HO]; · iexact HO
    isplitl [H3] <;> iassumption
  iintro ⟨Hc5, HO⟩
  iapply run_done
  iapply Hk
  isplitl [Hc5]; · iexact Hc5
  iexact HO

theorem part9_run (q : PosShare TreeShare) {Q : _ → sProp 𝕄} :
    iprop(records m ρ K ∗ owing c (owedRecv c [6]) ∗ copyRes m ρ c 6 ∗ whole c cc0_stg0_0 (qstg m ρ c) ∗ slotPts c 0 q (canon m ρ c))
      ⊢ iprop(((cred (tallyAt (sendCell c (Fin.succ 6)) () N) ∗ owing c 0 ∗ whole c cc0_stg0_0 (qstg m ρ c) ∗ slotPts c 0 q (canon m ρ c))
        -∗ Q ⟨k0_pay3 (qstg m ρ c), k0_pay6 (qstg m ρ c) (kpay m ρ c), k0_pay9 (qstg m ρ c) (kpay m ρ c), k0_pay10 (qstg m ρ c) (kpay m ρ c) (vpay m ρ c)⟩) -∗ Run (F := F) c (k0_part9 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 c) Q) := by
  rw [k0_part9_eq_skeleton]; unfold k0_part9_skel
  simp only [semSignalWord, semWaitWord, Prog.lift, Prog.bind_op, Prog.bind_ret, Prog.pure_eq_ret, wp_deviceId]
  iintro ⟨#HR, HO, H6, Hq, Hs⟩ Hk
  iapply (copy_step m ρ K c _ 6 (dev14_eq c) []) $$ [HO H6]
  · unfold copyRes
    icases H6 with ⟨H1, H2, H3, H4⟩
    isplitr; · iexact HR
    isplitl [H1]; · iexact H1
    isplitl [H2]; · iexact H2
    isplitl [HO]; · iexact HO
    isplitl [H3] <;> iassumption
  iintro ⟨Hc6, HO⟩
  iapply (wp_load 𝒱₀ (c : Thread nD τ) none Set.univ (m := qM) (Finset.subset_univ _)) $$ Hq; iintro Hq
  rw [read_q]
  iapply (load_key m ρ c c 0 q) $$ Hs; iintro Hs
  iapply (load_val m ρ c c 0 q) $$ Hs; iintro Hs
  iapply run_done
  iapply Hk
  isplitl [Hc6]; · iexact Hc6
  isplitl [HO]; · iexact HO
  isplitl [Hq] <;> iassumption

theorem part10_run (w : BitVec 32) (qb : FVec F S512x128 .bf16) (mx sm : FVec F S512x1 .f32) (acc : FVec F S512x128 .f32) {Q : _ → sProp 𝕄} :
    iprop(records m ρ K ∗ owing c 0 ∗ waitRes (recvCell c (Fin.succ 0)) ∗ emp)
      ⊢ iprop(((owing c 0 ∗ recvDone m ρ c 0) -∗ Q ⟨k0_pay12 qb mx (kpay m ρ (src c (Fin.succ 0))), k0_pay15 qb mx sm (kpay m ρ (src c (Fin.succ 0))), k0_pay16 qb mx acc (kpay m ρ (src c (Fin.succ 0))) (vpay m ρ (src c (Fin.succ 0)))⟩) -∗ Run (F := F) c (k0_part10 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 w qb mx sm acc) Q) := by
  rw [k0_part10_eq_skeleton]; unfold k0_part10_skel
  simp only [semSignalWord, semWaitWord, Prog.lift, Prog.bind_op, Prog.bind_ret, Prog.pure_eq_ret, wp_deviceId]
  iintro ⟨#HR, HO, Hw, Hm⟩ Hk
  unfold waitRes
  icases Hw with ⟨Hc, Ha⟩
  iapply (recv_step m ρ K c 0) $$ [HO Hc Ha]
  · isplitr; · iexact HR
    isplitl [Hc]; · iexact Hc
    isplitl [HO] <;> iassumption
  iintro ⟨HO, Hs, Hz⟩
  iapply (load_key m ρ c (src c (Fin.succ 0)) (Fin.succ 0) fullShare) $$ Hs; iintro Hs
  iapply (load_val m ρ c (src c (Fin.succ 0)) (Fin.succ 0) fullShare) $$ Hs; iintro Hs
  iapply run_done
  iapply Hk
  isplitl [HO]; · iexact HO
  unfold recvDone
  isplitl [Hs] <;> iassumption

theorem part11_run (w : BitVec 32) (qb : FVec F S512x128 .bf16) (mx sm : FVec F S512x1 .f32) (acc : FVec F S512x128 .f32) {Q : _ → sProp 𝕄} :
    iprop(records m ρ K ∗ owing c 0 ∗ waitRes (recvCell c (Fin.succ 1)) ∗ emp)
      ⊢ iprop((∀ x, (owing c 0 ∗ recvDone m ρ c 1) -∗ Q ⟨k0_pay18 qb mx (kpay m ρ (src c (Fin.succ 1))), k0_pay21 qb mx sm (kpay m ρ (src c (Fin.succ 1))), k0_pay22 qb mx acc (kpay m ρ (src c (Fin.succ 1))) (vpay m ρ (src c (Fin.succ 1))), x⟩) -∗ Run (F := F) c (k0_part11 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 w qb mx sm acc) Q) := by
  rw [k0_part11_eq_skeleton]; unfold k0_part11_skel
  simp only [semSignalWord, semWaitWord, Prog.lift, Prog.bind_op, Prog.bind_ret, Prog.pure_eq_ret, wp_deviceId]
  iintro ⟨#HR, HO, Hw, Hm⟩ Hk
  unfold waitRes
  icases Hw with ⟨Hc, Ha⟩
  iapply (recv_step m ρ K c 1) $$ [HO Hc Ha]
  · isplitr; · iexact HR
    isplitl [Hc]; · iexact Hc
    isplitl [HO] <;> iassumption
  iintro ⟨HO, Hs, Hz⟩
  iapply (load_key m ρ c (src c (Fin.succ 1)) (Fin.succ 1) fullShare) $$ Hs; iintro Hs
  iapply (load_val m ρ c (src c (Fin.succ 1)) (Fin.succ 1) fullShare) $$ Hs; iintro Hs
  iapply run_done
  iapply Hk
  isplitl [HO]; · iexact HO
  unfold recvDone
  isplitl [Hs] <;> iassumption

theorem part12_run (w w2 w3 : BitVec 32) (qb : FVec F S512x128 .bf16) (mx sm : FVec F S512x1 .f32) (acc : FVec F S512x128 .f32) {Q : _ → sProp 𝕄} :
    iprop(records m ρ K ∗ owing c 0 ∗ waitRes (recvCell c (Fin.succ 2)) ∗ emp)
      ⊢ iprop((∀ x y, (owing c 0 ∗ recvDone m ρ c 2) -∗ Q ⟨k0_pay24 qb mx (kpay m ρ (src c (Fin.succ 2))), k0_pay27 qb mx sm (kpay m ρ (src c (Fin.succ 2))), k0_pay28 qb mx acc (kpay m ρ (src c (Fin.succ 2))) (vpay m ρ (src c (Fin.succ 2))), x, y⟩) -∗ Run (F := F) c (k0_part12 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 w w2 qb mx sm acc w3) Q) := by
  rw [k0_part12_eq_skeleton]; unfold k0_part12_skel
  simp only [semSignalWord, semWaitWord, Prog.lift, Prog.bind_op, Prog.bind_ret, Prog.pure_eq_ret, wp_deviceId]
  iintro ⟨#HR, HO, Hw, Hm⟩ Hk
  unfold waitRes
  icases Hw with ⟨Hc, Ha⟩
  iapply (recv_step m ρ K c 2) $$ [HO Hc Ha]
  · isplitr; · iexact HR
    isplitl [Hc]; · iexact Hc
    isplitl [HO] <;> iassumption
  iintro ⟨HO, Hs, Hz⟩
  iapply (load_key m ρ c (src c (Fin.succ 2)) (Fin.succ 2) fullShare) $$ Hs; iintro Hs
  iapply (load_val m ρ c (src c (Fin.succ 2)) (Fin.succ 2) fullShare) $$ Hs; iintro Hs
  iapply run_done
  iapply Hk
  isplitl [HO]; · iexact HO
  unfold recvDone
  isplitl [Hs] <;> iassumption

theorem part13_run (w w2 w3 : BitVec 32) (qb : FVec F S512x128 .bf16) (mx sm : FVec F S512x1 .f32) (acc : FVec F S512x128 .f32) {Q : _ → sProp 𝕄} :
    iprop(records m ρ K ∗ owing c 0 ∗ waitRes (recvCell c (Fin.succ 3)) ∗ emp)
      ⊢ iprop(((owing c 0 ∗ recvDone m ρ c 3) -∗ Q ⟨k0_pay30 qb mx (kpay m ρ (src c (Fin.succ 3))), k0_pay33 qb mx sm (kpay m ρ (src c (Fin.succ 3))), k0_pay34 qb mx acc (kpay m ρ (src c (Fin.succ 3))) (vpay m ρ (src c (Fin.succ 3)))⟩) -∗ Run (F := F) c (k0_part13 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 w qb mx sm acc w2 w3) Q) := by
  rw [k0_part13_eq_skeleton]; unfold k0_part13_skel
  simp only [semSignalWord, semWaitWord, Prog.lift, Prog.bind_op, Prog.bind_ret, Prog.pure_eq_ret, wp_deviceId]
  iintro ⟨#HR, HO, Hw, Hm⟩ Hk
  unfold waitRes
  icases Hw with ⟨Hc, Ha⟩
  iapply (recv_step m ρ K c 3) $$ [HO Hc Ha]
  · isplitr; · iexact HR
    isplitl [Hc]; · iexact Hc
    isplitl [HO] <;> iassumption
  iintro ⟨HO, Hs, Hz⟩
  iapply (load_key m ρ c (src c (Fin.succ 3)) (Fin.succ 3) fullShare) $$ Hs; iintro Hs
  iapply (load_val m ρ c (src c (Fin.succ 3)) (Fin.succ 3) fullShare) $$ Hs; iintro Hs
  iapply run_done
  iapply Hk
  isplitl [HO]; · iexact HO
  unfold recvDone
  isplitl [Hs] <;> iassumption

theorem part14_run (w : BitVec 32) (qb : FVec F S512x128 .bf16) (mx sm : FVec F S512x1 .f32) (acc : FVec F S512x128 .f32) {Q : _ → sProp 𝕄} :
    iprop(records m ρ K ∗ owing c 0 ∗ waitRes (recvCell c (Fin.succ 4)) ∗ emp)
      ⊢ iprop(((owing c 0 ∗ recvDone m ρ c 4) -∗ Q ⟨k0_pay36 qb mx (kpay m ρ (src c (Fin.succ 4))), k0_pay39 qb mx sm (kpay m ρ (src c (Fin.succ 4))), k0_pay40 qb mx acc (kpay m ρ (src c (Fin.succ 4))) (vpay m ρ (src c (Fin.succ 4)))⟩) -∗ Run (F := F) c (k0_part14 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 w qb mx sm acc) Q) := by
  rw [k0_part14_eq_skeleton]; unfold k0_part14_skel
  simp only [semSignalWord, semWaitWord, Prog.lift, Prog.bind_op, Prog.bind_ret, Prog.pure_eq_ret, wp_deviceId]
  iintro ⟨#HR, HO, Hw, Hm⟩ Hk
  unfold waitRes
  icases Hw with ⟨Hc, Ha⟩
  iapply (recv_step m ρ K c 4) $$ [HO Hc Ha]
  · isplitr; · iexact HR
    isplitl [Hc]; · iexact Hc
    isplitl [HO] <;> iassumption
  iintro ⟨HO, Hs, Hz⟩
  iapply (load_key m ρ c (src c (Fin.succ 4)) (Fin.succ 4) fullShare) $$ Hs; iintro Hs
  iapply (load_val m ρ c (src c (Fin.succ 4)) (Fin.succ 4) fullShare) $$ Hs; iintro Hs
  iapply run_done
  iapply Hk
  isplitl [HO]; · iexact HO
  unfold recvDone
  isplitl [Hs] <;> iassumption

theorem part15_run (w : BitVec 32) (qb : FVec F S512x128 .bf16) (mx sm : FVec F S512x1 .f32) (acc : FVec F S512x128 .f32) {Q : _ → sProp 𝕄} :
    iprop(records m ρ K ∗ owing c 0 ∗ waitRes (recvCell c (Fin.succ 5)) ∗ emp)
      ⊢ iprop(((owing c 0 ∗ recvDone m ρ c 5) -∗ Q ⟨k0_pay42 qb mx (kpay m ρ (src c (Fin.succ 5))), k0_pay45 qb mx sm (kpay m ρ (src c (Fin.succ 5))), k0_pay46 qb mx acc (kpay m ρ (src c (Fin.succ 5))) (vpay m ρ (src c (Fin.succ 5)))⟩) -∗ Run (F := F) c (k0_part15 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 w qb mx sm acc) Q) := by
  rw [k0_part15_eq_skeleton]; unfold k0_part15_skel
  simp only [semSignalWord, semWaitWord, Prog.lift, Prog.bind_op, Prog.bind_ret, Prog.pure_eq_ret, wp_deviceId]
  iintro ⟨#HR, HO, Hw, Hm⟩ Hk
  unfold waitRes
  icases Hw with ⟨Hc, Ha⟩
  iapply (recv_step m ρ K c 5) $$ [HO Hc Ha]
  · isplitr; · iexact HR
    isplitl [Hc]; · iexact Hc
    isplitl [HO] <;> iassumption
  iintro ⟨HO, Hs, Hz⟩
  iapply (load_key m ρ c (src c (Fin.succ 5)) (Fin.succ 5) fullShare) $$ Hs; iintro Hs
  iapply (load_val m ρ c (src c (Fin.succ 5)) (Fin.succ 5) fullShare) $$ Hs; iintro Hs
  iapply run_done
  iapply Hk
  isplitl [HO]; · iexact HO
  unfold recvDone
  isplitl [Hs] <;> iassumption

theorem part16_run (qb : FVec F S512x128 .bf16) (mx sm : FVec F S512x1 .f32) (acc : FVec F S512x128 .f32) {Q : _ → sProp 𝕄} :
    iprop(records m ρ K ∗ owing c 0 ∗ waitRes (recvCell c (Fin.succ 6)) ∗ ∃ f, whole c cc0_stg3_0 f)
      ⊢ iprop(((owing c 0 ∗ recvDone m ρ c 6 ∗ whole c cc0_stg3_0 (k0_pay47 qb mx sm acc (kpay m ρ (src c (Fin.succ 6))) (vpay m ρ (src c (Fin.succ 6))))) -∗ Q ⟨⟩) -∗ Run (F := F) c (k0_part16 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 qb mx sm acc) Q) := by
  rw [k0_part16_eq_skeleton]; unfold k0_part16_skel
  simp only [semSignalWord, semWaitWord, Prog.lift, Prog.bind_op, Prog.bind_ret, Prog.pure_eq_ret, wp_deviceId]
  iintro ⟨#HR, HO, Hw, ⟨%f, Ho⟩⟩ Hk
  unfold waitRes
  icases Hw with ⟨Hc, Ha⟩
  iapply (recv_step m ρ K c 6) $$ [HO Hc Ha]
  · isplitr; · iexact HR
    isplitl [Hc]; · iexact Hc
    isplitl [HO] <;> iassumption
  iintro ⟨HO, Hs, Hz⟩
  iapply (load_key m ρ c (src c (Fin.succ 6)) (Fin.succ 6) fullShare) $$ Hs; iintro Hs
  iapply (load_val m ρ c (src c (Fin.succ 6)) (Fin.succ 6) fullShare) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := r0) (Mk := Finset.univ) (Finset.subset_univ _)) $$ Ho; iintro Ho
  rw [write_o]
  iapply run_done
  iapply Hk
  isplitl [HO]; · iexact HO
  isplitl [Hs Hz]
  · unfold recvDone
    isplitl [Hs] <;> iassumption
  iexact Ho

theorem part17_run {Q : _ → sProp 𝕄} :
    iprop(records m ρ K ∗ owing c 0 ∗ waitRes (sendCell c (Fin.succ 0)) ∗ waitRes (sendCell c (Fin.succ 1)) ∗ waitRes (sendCell c (Fin.succ 2)))
      ⊢ iprop(((owing c 0 ∗ sentDone m ρ c 0 ∗ sentDone m ρ c 1 ∗ sentDone m ρ c 2) -∗ Q ⟨⟩) -∗ Run (F := F) c (k0_part17 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2 ) Q) := by
  rw [k0_part17_eq_skeleton]; unfold k0_part17_skel
  simp only [semSignalWord, semWaitWord, Prog.lift, Prog.bind_op, Prog.bind_ret, Prog.pure_eq_ret, wp_deviceId]
  iintro ⟨#HR, HO, W0, W1, W2⟩ Hk
  iapply (sent_step m ρ K c 0 rfl) $$ [HO W0]
  · unfold waitRes
    icases W0 with ⟨Hc, Ha⟩
    isplitr; · iexact HR
    isplitl [Hc]; · iexact Hc
    isplitl [HO] <;> iassumption
  iintro ⟨HO, Hd0⟩
  iapply (sent_step m ρ K c 1 rfl) $$ [HO W1]
  · unfold waitRes
    icases W1 with ⟨Hc, Ha⟩
    isplitr; · iexact HR
    isplitl [Hc]; · iexact Hc
    isplitl [HO] <;> iassumption
  iintro ⟨HO, Hd1⟩
  iapply (sent_step m ρ K c 2 rfl) $$ [HO W2]
  · unfold waitRes
    icases W2 with ⟨Hc, Ha⟩
    isplitr; · iexact HR
    isplitl [Hc]; · iexact Hc
    isplitl [HO] <;> iassumption
  iintro ⟨HO, Hd2⟩
  iapply run_done
  iapply Hk
  unfold sentDone
  isplitl [HO]; · iexact HO
  isplitl [Hd0]; · iexact Hd0
  isplitl [Hd1] <;> iassumption

end Parts

end Cert.Exchange
-- ==== Proof.Body.lean ====
/-
# The body whole, and the pipeline's proof data

From its staged blocks, its slots and its ghost state, a device's body ends with the attention of its queries over the
eight blocks in its output block, every slot filled and every semaphore back at zero.
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ)

/-! ## The fold over the slots -/

/-- The keys and the values in slot `o + 1`. -/
abbrev ks (c : Dev nD) (o : Fin 7) : FVec F S1x1x512x128 .bf16 := kpay m ρ (src c o.succ)
abbrev vs (c : Dev nD) (o : Fin 7) : FVec F S1x1x512x128 .bf16 := vpay m ρ (src c o.succ)
def qb (c : Dev nD) : FVec F S512x128 .bf16 := k0_pay3 (qstg m ρ c)

/-- Running maximum, running sum, running accumulator after each slot. -/
def mx0 (c : Dev nD) : FVec F S512x1 .f32 := k0_pay6 (qstg m ρ c) (kpay m ρ c)
def sm0 (c : Dev nD) : FVec F S512x1 .f32 := k0_pay9 (qstg m ρ c) (kpay m ρ c)
def ac0 (c : Dev nD) : FVec F S512x128 .f32 := k0_pay10 (qstg m ρ c) (kpay m ρ c) (vpay m ρ c)
def mx1 (c : Dev nD) : FVec F S512x1 .f32 := k0_pay12 (qb m ρ c) (mx0 m ρ c) (ks m ρ c 0)
def sm1 (c : Dev nD) : FVec F S512x1 .f32 := k0_pay15 (qb m ρ c) (mx0 m ρ c) (sm0 m ρ c) (ks m ρ c 0)
def ac1 (c : Dev nD) : FVec F S512x128 .f32 := k0_pay16 (qb m ρ c) (mx0 m ρ c) (ac0 m ρ c) (ks m ρ c 0) (vs m ρ c 0)
def mx2 (c : Dev nD) : FVec F S512x1 .f32 := k0_pay18 (qb m ρ c) (mx1 m ρ c) (ks m ρ c 1)
def sm2 (c : Dev nD) : FVec F S512x1 .f32 := k0_pay21 (qb m ρ c) (mx1 m ρ c) (sm1 m ρ c) (ks m ρ c 1)
def ac2 (c : Dev nD) : FVec F S512x128 .f32 := k0_pay22 (qb m ρ c) (mx1 m ρ c) (ac1 m ρ c) (ks m ρ c 1) (vs m ρ c 1)
def mx3 (c : Dev nD) : FVec F S512x1 .f32 := k0_pay24 (qb m ρ c) (mx2 m ρ c) (ks m ρ c 2)
def sm3 (c : Dev nD) : FVec F S512x1 .f32 := k0_pay27 (qb m ρ c) (mx2 m ρ c) (sm2 m ρ c) (ks m ρ c 2)
def ac3 (c : Dev nD) : FVec F S512x128 .f32 := k0_pay28 (qb m ρ c) (mx2 m ρ c) (ac2 m ρ c) (ks m ρ c 2) (vs m ρ c 2)
def mx4 (c : Dev nD) : FVec F S512x1 .f32 := k0_pay30 (qb m ρ c) (mx3 m ρ c) (ks m ρ c 3)
def sm4 (c : Dev nD) : FVec F S512x1 .f32 := k0_pay33 (qb m ρ c) (mx3 m ρ c) (sm3 m ρ c) (ks m ρ c 3)
def ac4 (c : Dev nD) : FVec F S512x128 .f32 := k0_pay34 (qb m ρ c) (mx3 m ρ c) (ac3 m ρ c) (ks m ρ c 3) (vs m ρ c 3)
def mx5 (c : Dev nD) : FVec F S512x1 .f32 := k0_pay36 (qb m ρ c) (mx4 m ρ c) (ks m ρ c 4)
def sm5 (c : Dev nD) : FVec F S512x1 .f32 := k0_pay39 (qb m ρ c) (mx4 m ρ c) (sm4 m ρ c) (ks m ρ c 4)
def ac5 (c : Dev nD) : FVec F S512x128 .f32 := k0_pay40 (qb m ρ c) (mx4 m ρ c) (ac4 m ρ c) (ks m ρ c 4) (vs m ρ c 4)
def mx6 (c : Dev nD) : FVec F S512x1 .f32 := k0_pay42 (qb m ρ c) (mx5 m ρ c) (ks m ρ c 5)
def sm6 (c : Dev nD) : FVec F S512x1 .f32 := k0_pay45 (qb m ρ c) (mx5 m ρ c) (sm5 m ρ c) (ks m ρ c 5)
def ac6 (c : Dev nD) : FVec F S512x128 .f32 := k0_pay46 (qb m ρ c) (mx5 m ρ c) (ac5 m ρ c) (ks m ρ c 5) (vs m ρ c 5)
/-- What device `c`'s body writes. -/
def outAt (c : Dev nD) : (cc0_stg3_0 : Ref sig .tc).ty.Contents (Elt F) :=
  k0_pay47 (qb m ρ c) (mx6 m ρ c) (sm6 m ρ c) (ac6 m ρ c) (ks m ρ c 6) (vs m ρ c 6)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from. -/
def start (c : Dev nD) : sProp 𝕄 := iprop((∃ K, ghost m ρ K c) ∗ credits (F := F) c ∗ levAts L lv)

/-- The exchange buffer whole, at some contents. -/
def scr (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scr (F := F) c)
/-- At the end: the exchange buffer, and every semaphore of the exchange at zero. -/
def Φ₁ (c : Dev nD) : sProp 𝕄 :=
  iprop(scr (F := F) c ∗ (bigSep Finset.univ fun n : Fin 8 => semVal (sendCell c n) 0) ∗ (bigSep Finset.univ fun n : Fin 8 => semVal (recvCell c n) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] [Named F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The ghost state dealt to the steps -/

omit [FloatOps F] [Named F] in
theorem deal_sig (c : Dev nD) :
    iprop((bigSep Finset.univ fun o : Fin 7 => dutyTok ER (barCell (fwd c o)) 0 o.rev) ∗ bigSep Finset.univ fun o : Fin 7 => iprop(∃ f, slotPts (F := F) c o.succ fullShare f))
      ⊢ (bigSep Finset.univ fun o : Fin 7 => sigRes c o : sProp 𝕄) := by
  rw [bigSep_univ_equiv Fin.revPerm (fun o : Fin 7 => iprop(∃ f, slotPts (F := F) c o.succ fullShare f))]
  exact Entails.of_eq (bigSep_sep _ _ _).symm

theorem deal_copy (c : Dev nD) :
    iprop((bigSep Finset.univ fun o : Fin 7 => slotPts c 0 (tok o.succ) (canon m ρ c)) ∗ (bigSep Finset.univ fun o : Fin 7 => barPay (F := F) c o)
        ∗ (bigSep Finset.univ fun o : Fin 7 => dutyTok ER (recvCell (fwd c o) o.succ) 0 0) ∗ bigSep Finset.univ fun o : Fin 7 => dutyTok ER (sendCell c o.succ) 0 0)
      ⊢ (bigSep Finset.univ fun o : Fin 7 => copyRes m ρ c o : sProp 𝕄) := by
  unfold copyRes
  rw [bigSep_sep', bigSep_sep', bigSep_sep']

omit [FloatOps F] [Named F] in
theorem deal_wait (g : Fin 7 → GSem nD τ sig) :
    iprop((bigSep Finset.univ fun o : Fin 7 => cred (tallyAt (g o) () N)) ∗ bigSep Finset.univ fun o : Fin 7 => atPos ER (g o) 0 ∅ 0)
      ⊢ (bigSep Finset.univ fun o : Fin 7 => waitRes (F := F) (g o) : sProp 𝕄) := by
  unfold waitRes
  rw [bigSep_sep']

theorem split_slot0 (c : Dev nD) : slotPts c 0 fullShare (canon m ρ c)
    ⊢ iprop(slotPts c 0 (Transfers.shareDrop fullShare 7) (canon m ρ c) ∗ bigSep Finset.univ fun o : Fin 7 => slotPts c 0 (tok o.succ) (canon m ρ c)) := by
  unfold slotPts
  exact Transfers.pointsTo_toks_split fullShare 7
theorem join_slot0 (c : Dev nD) : iprop(slotPts c 0 (Transfers.shareDrop fullShare 7) (canon m ρ c) ∗ bigSep Finset.univ fun o : Fin 7 => slotPts c 0 (tok o.succ) (canon m ρ c))
    ⊢ slotPts c 0 fullShare (canon m ρ c) := by
  unfold slotPts
  exact Transfers.pointsTo_toks_join fullShare 7

theorem gather_recv (c : Dev nD) : (bigSep Finset.univ fun o : Fin 7 => recvDone m ρ c o)
    ⊢ iprop((bigSep Finset.univ fun o : Fin 7 => slotPts c o.succ fullShare (canon m ρ (src c o.succ))) ∗ bigSep Finset.univ fun o : Fin 7 => semVal (recvCell c o.succ) 0) := by
  unfold recvDone
  rw [bigSep_sep']
theorem gather_sent (c : Dev nD) : (bigSep Finset.univ fun o : Fin 7 => sentDone m ρ c o)
    ⊢ iprop((bigSep Finset.univ fun o : Fin 7 => slotPts c 0 (tok o.succ) (canon m ρ c)) ∗ bigSep Finset.univ fun o : Fin 7 => semVal (sendCell c o.succ) 0) := by
  unfold sentDone
  rw [bigSep_sep']

/-! ## The body -/

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body run on what its steps consume. -/
theorem run_steps (c : Dev nD) (Kt : PUnit → sProp 𝕄) :
    iprop(records m ρ K ∗ levAts L lv ∗ owing c (O₀ c)
        ∗ (bigSep Finset.univ fun o : Fin 7 => sigRes c o) ∗ (cred (tallyAt (barCell c) () 7) ∗ atPos ER (barCell c) 0 ∅ 0)
        ∗ (∃ f, slotPts c 0 fullShare f)
        ∗ ((bigSep Finset.univ fun o : Fin 7 => dutyTok ER (recvCell (fwd c o) o.succ) 0 0) ∗ bigSep Finset.univ fun o : Fin 7 => dutyTok ER (sendCell c o.succ) 0 0)
        ∗ (bigSep Finset.univ fun o : Fin 7 => waitRes (recvCell c o.succ)) ∗ (bigSep Finset.univ fun o : Fin 7 => atPos ER (sendCell c o.succ) 0 ∅ 0)
        ∗ whole c cc0_stg0_0 (qstg m ρ c) ∗ whole c cc0_stg1_0 (kstg m ρ c) ∗ whole c cc0_stg2_0 (vstg m ρ c) ∗ ∃ f, whole c cc0_stg3_0 f)
      ⊢ iprop(((owing c 0 ∗ semVal (barCell c) 0 ∗ slotPts c 0 (Transfers.shareDrop fullShare 7) (canon m ρ c)
            ∗ (bigSep Finset.univ fun o : Fin 7 => recvDone m ρ c o) ∗ (bigSep Finset.univ fun o : Fin 7 => sentDone m ρ c o)
            ∗ whole c cc0_stg0_0 (qstg m ρ c) ∗ whole c cc0_stg1_0 (kstg m ρ c) ∗ whole c cc0_stg2_0 (vstg m ρ c) ∗ whole c cc0_stg3_0 (outAt m ρ c)) -∗ Kt ⟨⟩)
        -∗ Run c (cc0_body (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2) Kt) := by
  simp only [cc0_body_eq_skeleton]; unfold cc0_body_skel
  rw [k0_part18_eq_skeleton]; unfold k0_part18_skel
  unfold O₀
  iintro ⟨#HR, #Hlev, HO, Hsig, ⟨HcB, HaB⟩, Hs0, ⟨HtR, HtS⟩, HwR, HaS, Hq, Hkk, Hv, Ho⟩ Hk
  unfold Run
  simp only [wp_bind, Prog.lift, Prog.pure_eq_ret]
  ihave Hsig' := (Entails.of_eq (bigSep_fin7 fun o : Fin 7 => sigRes c o)) $$ Hsig
  icases Hsig' with ⟨H0, H1, H2, H3, H4, H5, H6⟩
  iapply (part1_run m ρ K c) $$ [HO H0 H1]
  · isplitr; · iexact HR
    isplitl [HO]; · iexact HO
    isplitl [H0] <;> iassumption
  iintro %v2 %v30 %x0 %v31 HO
  iapply (part2_run m ρ K c v2 v30 x0 v31) $$ [HO H2 H3]
  · isplitr; · iexact HR
    isplitl [HO]; · iexact HO
    isplitl [H2]; · iexact H2
    iexact H3
  iintro %v59 %v64 %v65 HO
  iapply (part3_run m ρ K c v2 v59 v64 v65) $$ [HO H4 H5 H6 HcB HaB]
  · isplitr; · iexact HR
    isplitr; · iexact Hlev
    isplitl [HO]; · iexact HO
    isplitl [H4]; · iexact H4
    isplitl [H5]; · iexact H5
    isplitl [H6]; · iexact H6
    isplitl [HcB]; · iexact HcB
    iexact HaB
  iintro ⟨HO, Hbp, HzB⟩
  iapply (part4_run m ρ c v2) $$ [Hkk Hv Hs0]
  · isplitl [Hkk]; · iexact Hkk
    isplitl [Hv]; · iexact Hv
    iexact Hs0
  iintro %v117 ⟨Hkk, Hv, Hs0⟩
  ihave Hs' := (split_slot0 m ρ c) $$ Hs0
  icases Hs' with ⟨Hs0, Htk⟩
  ihave Hcp := (deal_copy m ρ c) $$ [Htk Hbp HtR HtS]
  · isplitl [Htk]; · iexact Htk
    isplitl [Hbp]; · iexact Hbp
    isplitl [HtR] <;> iassumption
  ihave Hcp' := (Entails.of_eq (bigSep_fin7 fun o : Fin 7 => copyRes m ρ c o)) $$ Hcp
  icases Hcp' with ⟨H0, H1, H2, H3, H4, H5, H6⟩
  iapply (part5_run m ρ K c v2) $$ [HO H0 H1]
  · isplitr; · iexact HR
    isplitl [HO]; · iexact HO
    isplitl [H0]; · iexact H0
    iexact H1
  iintro %v138 %v151 %v152 %v153 %v154 %v155 ⟨C0, C1, HO⟩
  iapply (part6_run m ρ K c v2 v151 v152 v153 v154 v155) $$ [HO H2]
  · isplitr; · iexact HR
    isplitl [HO]; · iexact HO
    iexact H2
  iintro %v159 %v180 ⟨C2, HO⟩
  iapply (part7_run m ρ K c v2) $$ [HO H3 H4]
  · isplitr; · iexact HR
    isplitl [HO]; · iexact HO
    isplitl [H3]; · iexact H3
    iexact H4
  iintro %v201 %v214 %v215 %v216 %x1 ⟨C3, C4, HO⟩
  iapply (part8_run m ρ K c v2 v214 v215 v216 x1) $$ [HO H5]
  · isplitr; · iexact HR
    isplitl [HO]; · iexact HO
    iexact H5
  iintro %v222 %v243 ⟨C5, HO⟩
  iapply (part9_run m ρ K c (Transfers.shareDrop fullShare 7)) $$ [HO H6 Hq Hs0]
  · isplitr; · iexact HR
    isplitl [HO]; · iexact HO
    isplitl [H6]; · iexact H6
    isplitl [Hq]; · iexact Hq
    iexact Hs0
  iintro ⟨C6, HO, Hq, Hs0⟩
  ihave HwR' := (Entails.of_eq (bigSep_fin7 fun o : Fin 7 => waitRes (F := F) (recvCell c o.succ))) $$ HwR
  icases HwR' with ⟨W0, W1, W2, W3, W4, W5, W6⟩
  iapply (part10_run m ρ K c v117 (qb m ρ c) (mx0 m ρ c) (sm0 m ρ c) (ac0 m ρ c)) $$ [HO W0]
  · isplitr; · iexact HR
    isplitl [HO]; · iexact HO
    isplitl [W0]; · iexact W0
    iempintro
  iintro ⟨HO, D0⟩
  iapply (part11_run m ρ K c v138 (qb m ρ c) (mx1 m ρ c) (sm1 m ρ c) (ac1 m ρ c)) $$ [HO W1]
  · isplitr; · iexact HR
    isplitl [HO]; · iexact HO
    isplitl [W1]; · iexact W1
    iempintro
  iintro %x2 ⟨HO, D1⟩
  iapply (part12_run m ρ K c v159 v180 x2 (qb m ρ c) (mx2 m ρ c) (sm2 m ρ c) (ac2 m ρ c)) $$ [HO W2]
  · isplitr; · iexact HR
    isplitl [HO]; · iexact HO
    isplitl [W2]; · iexact W2
    iempintro
  iintro %x3 %x4 ⟨HO, D2⟩
  iapply (part13_run m ρ K c v201 x3 x4 (qb m ρ c) (mx3 m ρ c) (sm3 m ρ c) (ac3 m ρ c)) $$ [HO W3]
  · isplitr; · iexact HR
    isplitl [HO]; · iexact HO
    isplitl [W3]; · iexact W3
    iempintro
  iintro ⟨HO, D3⟩
  iapply (part14_run m ρ K c v222 (qb m ρ c) (mx4 m ρ c) (sm4 m ρ c) (ac4 m ρ c)) $$ [HO W4]
  · isplitr; · iexact HR
    isplitl [HO]; · iexact HO
    isplitl [W4]; · iexact W4
    iempintro
  iintro ⟨HO, D4⟩
  iapply (part15_run m ρ K c v243 (qb m ρ c) (mx5 m ρ c) (sm5 m ρ c) (ac5 m ρ c)) $$ [HO W5]
  · isplitr; · iexact HR
    isplitl [HO]; · iexact HO
    isplitl [W5]; · iexact W5
    iempintro
  iintro ⟨HO, D5⟩
  iapply (part16_run m ρ K c (qb m ρ c) (mx6 m ρ c) (sm6 m ρ c) (ac6 m ρ c)) $$ [HO W6 Ho]
  · isplitr; · iexact HR
    isplitl [HO]; · iexact HO
    isplitl [W6] <;> iassumption
  iintro ⟨HO, D6, Ho⟩
  ihave HaS' := (Entails.of_eq (bigSep_fin7 fun o : Fin 7 => atPos ER (sendCell c o.succ) 0 ∅ 0)) $$ HaS
  icases HaS' with ⟨A0, A1, A2, A3, A4, A5, A6⟩
  iapply (part17_run m ρ K c) $$ [HO C0 A0 C1 A1 C2 A2]
  · unfold waitRes
    isplitr; · iexact HR
    isplitl [HO]; · iexact HO
    isplitl [C0 A0]; · (isplitl [C0] <;> iassumption)
    isplitl [C1 A1]; · (isplitl [C1] <;> iassumption)
    isplitl [C2] <;> iassumption
  iintro ⟨HO, E0, E1, E2⟩
  iapply (sent_step m ρ K c 3 rfl) $$ [HO C3 A3]
  · isplitr; · iexact HR
    isplitl [C3]; · iexact C3
    isplitl [HO] <;> iassumption
  iintro ⟨HO, E3⟩
  iapply run_done
  iapply (sent_step m ρ K c 4 rfl) $$ [HO C4 A4]
  · isplitr; · iexact HR
    isplitl [C4]; · iexact C4
    isplitl [HO] <;> iassumption
  iintro ⟨HO, E4⟩
  iapply run_done
  iapply (sent_step m ρ K c 5 rfl) $$ [HO C5 A5]
  · isplitr; · iexact HR
    isplitl [C5]; · iexact C5
    isplitl [HO] <;> iassumption
  iintro ⟨HO, E5⟩
  iapply run_done
  iapply run_done
  iapply (sent_step m ρ K c 6 rfl) $$ [HO C6 A6]
  · isplitr; · iexact HR
    isplitl [C6]; · iexact C6
    isplitl [HO] <;> iassumption
  iintro ⟨HO, E6⟩
  iapply run_done
  iapply run_done
  iapply Hk
  isplitl [HO]; · iexact HO
  isplitl [HzB]; · iexact HzB
  isplitl [Hs0]; · iexact Hs0
  isplitl [D0 D1 D2 D3 D4 D5 D6]
  · rw [bigSep_fin7]
    isplitl [D0]; · iexact D0
    isplitl [D1]; · iexact D1
    isplitl [D2]; · iexact D2
    isplitl [D3]; · iexact D3
    isplitl [D4]; · iexact D4
    isplitl [D5] <;> iassumption
  isplitl [E0 E1 E2 E3 E4 E5 E6]
  · rw [bigSep_fin7]; unfold sentDone
    isplitl [E0]; · iexact E0
    isplitl [E1]; · iexact E1
    isplitl [E2]; · iexact E2
    isplitl [E3]; · iexact E3
    isplitl [E4]; · iexact E4
    isplitl [E5] <;> iassumption
  isplitl [Hq]; · iexact Hq
  isplitl [Hkk]; · iexact Hkk
  isplitl [Hv]; · iexact Hv
  unfold outAt; iexact Ho

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))

def bodyPost (c : Dev nD) : sProp 𝕄 :=
  iprop(Φ₁ (F := F) c ∗ (dats m ρ 0 c).owesAt () t₀.succ ∗ stg c cc0_stg0_0 (qstg m ρ c) ∗ stg c cc0_stg1_0 (kstg m ρ c) ∗ stg c cc0_stg2_0 (vstg m ρ c)
    ∗ stg c cc0_stg3_0 (outAt m ρ c))

/-- The body, from what the pipeline hands it to what it hands back. -/
theorem sound_body (c : Dev nD) :
    bodyPre m ρ c ⊢ Run c (cc0_body (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_scratch0) (Memref.isWhole_whole _) cc0_scratch1 cc0_scratch2) (fun _ => bodyPost m ρ c) := by
  unfold bodyPre Φ₀ start ghost positions payToks credits
  simp only [bigSep_CK, bigSep_fin8]
  iintro ⟨⟨⟨⟨%K, #HR, ⟨HaB, ⟨HaS0, HaS⟩, ⟨HaR0, HaR⟩⟩, HtB, HtR, HtS⟩, ⟨HcB, HcR⟩, #Hlev⟩, Hscr⟩, HO,
    ⟨%d0, %g0, %hg0, Hq⟩, ⟨%d1, %g1, %hg1, Hkk⟩, ⟨%d2, %g2, %hg2, Hv⟩, ⟨%d3, %g3, %hg3, Ho⟩⟩
  have hq : g0 = qstg m ρ c := by rw [hg0]; unfold Dat.before; rw [if_pos (fetch_0 t₀)]; rfl
  have hk : g1 = kstg m ρ c := by rw [hg1]; unfold Dat.before; rw [if_pos (fetch_1 t₀)]; rfl
  have hv : g2 = vstg m ρ c := by rw [hg2]; unfold Dat.before; rw [if_pos (fetch_2 t₀)]; rfl
  subst hq hk hv
  unfold Dat.owesAt Pipeline.owesWithin
  icases HO with ⟨%W, %hW, HO⟩
  rw [show (dats m ρ 0 c).owed t₀.castSucc = O₀ c from rfl]
  ihave Hsl := (slots_split c) $$ [Hscr]
  · unfold scr; iexact Hscr
  ihave Hsl' := (Entails.of_eq (bigSep_fin8 fun n : Fin 8 => iprop(∃ f, slotPts (F := F) c n fullShare f))) $$ Hsl
  icases Hsl' with ⟨Hs0, Hss⟩
  ihave Hsig := (deal_sig c) $$ [HtB Hss]
  · isplitl [HtB] <;> iassumption
  ihave HwR := (deal_wait fun o => recvCell c o.succ) $$ [HcR HaR]
  · isplitl [HcR] <;> iassumption
  ihave #HI0 := (inv_at m ρ K (c, .inr (.inl 0))) $$ HR
  ihave #HI0' := (inv_at m ρ K (c, .inr (.inr 0))) $$ HR
  imod (Rounds.cell_close ER (rd m ρ) (Set.mem_univ (K (c, .inr (.inl 0)))) (fun h => h) (R := 0) (duties_send0 m ρ c)) $$ [HaS0] with HzS0
  · isplitr; · iexact HI0
    iexact HaS0
  imod (Rounds.cell_close ER (rd m ρ) (Set.mem_univ (K (c, .inr (.inr 0)))) (fun h => h) (R := 0) (duties_recv0 m ρ c)) $$ [HaR0] with HzR0
  · isplitr; · iexact HI0'
    iexact HaR0
  iapply (run_steps m ρ K c fun _ => bodyPost m ρ c) $$ [HO Hsig HcB HaB Hs0 HtR HtS HwR HaS Hq Hkk Hv Ho]
  · isplitr; · iexact HR
    isplitr; · iexact Hlev
    isplitl [HO]; · (unfold owing; iexists W; iexact HO)
    isplitl [Hsig]; · iexact Hsig
    isplitl [HcB HaB]; · (isplitl [HcB] <;> iassumption)
    isplitl [Hs0]; · iexact Hs0
    isplitl [HtR HtS]; · (isplitl [HtR] <;> iassumption)
    isplitl [HwR]; · iexact HwR
    isplitl [HaS]; · iexact HaS
    isplitl [Hq]; · iexact Hq
    isplitl [Hkk]; · iexact Hkk
    isplitl [Hv]; · iexact Hv
    iexists g3; iexact Ho
  iintro ⟨HO, HzB, Hs0, Hrd, Hsd, Hq, Hkk, Hv, Ho⟩
  ihave Hrd' := (gather_recv m ρ c) $$ Hrd
  icases Hrd' with ⟨Hrs, HzR⟩
  ihave Hsd' := (gather_sent m ρ c) $$ Hsd
  icases Hsd' with ⟨Hst, HzS⟩
  ihave Hs0' := (join_slot0 m ρ c) $$ [Hs0 Hst]
  · isplitl [Hs0] <;> iassumption
  ihave Hscr := (slots_join m ρ c) $$ [Hs0' Hrs]
  · rw [bigSep_fin8, src_zero]
    isplitl [Hs0'] <;> iassumption
  unfold bodyPost Φ₁ Dat.owesAt Pipeline.owesWithin owing scr
  icases HO with ⟨%W', HO⟩
  rw [show (dats m ρ 0 c).owed t₀.succ = 0 from rfl]
  isplitl [Hscr HzS0 HzS HzR0 HzR HzB]
  · isplitl [Hscr]; · iexact Hscr
    isplitl [HzS0 HzS]
    · rw [bigSep_fin8]; isplitl [HzS0] <;> iassumption
    isplitl [HzR0 HzR]
    · rw [bigSep_fin8]; isplitl [HzR0] <;> iassumption
    iexact HzB
  isplitl [HO]
  · iexists W'
    isplitr; · ipureintro; exact fun _ _ => Or.inl trivial
    iexact HO
  isplitl [Hq]
  · iexists _; isplitr; · (ipureintro; rfl)
    iexact Hq
  isplitl [Hkk]
  · iexists _; isplitr; · (ipureintro; rfl)
    iexact Hkk
  isplitl [Hv]
  · iexists _; isplitr; · (ipureintro; rfl)
    iexact Hv
  iexists _; isplitr; · (ipureintro; rfl)
  iexact Ho

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Body

end Cert.Exchange
-- ==== Proof.Launch.lean ====
/-
# The launch and the run

The ghost state of the exchange is allocated over all eight devices at once: every device's barrier, send and receive
cells get their invariants, and the duty tokens are dealt to the devices that pay the duties. The kernel region's rule
then gives the run of the whole program.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The launch element -/

def exCells : Finset (GSem nD τ sig) := Finset.univ.map ⟨kcell, kcell_injective⟩

/-- A device's own cells' duties: its barrier's seven, each receive cell's one, each send cell's one. -/
abbrev Own : Type := Fin 7 ⊕ (Fin 7 ⊕ Fin 7)
abbrev dutyOf : Own → CK × Fin 7
  | .inl e => (.inl (), e)
  | .inr (.inl o) => (.inr (.inr o.succ), 0)
  | .inr (.inr o) => (.inr (.inl o.succ), 0)
theorem dutyOf_injective : Function.Injective dutyOf := by decide
abbrev tokOf (cj : Dev nD × Own) : GSem nD τ sig × ℕ × Fin 7 := (kcell (cj.1, (dutyOf cj.2).1), 0, (dutyOf cj.2).2)
theorem tokOf_injective : Function.Injective tokOf := by
  rintro ⟨c, j⟩ ⟨c', j'⟩ h
  have h1 := kcell_injective (congrArg Prod.fst h)
  have h2 : (dutyOf j).2 = (dutyOf j').2 := congrArg (fun x : GSem nD τ sig × ℕ × Fin 7 => x.2.2) h
  exact Prod.ext (congrArg (fun x : Dev nD × CK => x.1) h1) (dutyOf_injective (Prod.ext (congrArg (fun x : Dev nD × CK => x.2) h1) h2))
def exToks : Finset (GSem nD τ sig × ℕ × Fin 7) := Finset.univ.map ⟨tokOf, tokOf_injective⟩

def u₀ : UU := (initOf (Pipeline.cells cfgs cellOf_inj) (Pipeline.launchToks cfgs cellOf_inj), initOf exCells exToks)

/-- The duty tokens of device `c`'s own cells. -/
def toks (c : Dev nD) : sProp 𝕄 :=
  iprop((bigSep Finset.univ fun e : Fin 7 => dutyTok ER (barCell c) 0 e)
    ∗ (bigSep Finset.univ fun o : Fin 7 => dutyTok ER (recvCell c o.succ) 0 0)
    ∗ bigSep Finset.univ fun o : Fin 7 => dutyTok ER (sendCell c o.succ) 0 0)

/-- What the launch element deals device `c`. -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)

/-- What allocating the invariants makes of it. -/
def G' (c : Dev nD) : sProp 𝕄 := iprop(∃ K, ghost m ρ K c)

theorem fund_exchange : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] [Named F] in
theorem ownSems0_eq (c : Dev nD) : (Pipeline.ownSems0 (Ix := Unit) (Name := ℕ) (U := UU) (Lvl := ℕ) (Val := Elt F) (τ := τ) osem c : sProp 𝕄)
    = iprop((bigSep Finset.univ fun n : Fin 8 => semVal (sendCell c n) 0) ∗ bigSep Finset.univ fun n : Fin 8 => semVal (recvCell c n) 0) := by
  have hs (n : Fin 8) : osem (finSumFinEquiv (m := 8) (n := 8) (.inl n)) = .dma (sendS n) := by revert n; decide
  have hr (n : Fin 8) : osem (finSumFinEquiv (m := 8) (n := 8) (.inr n)) = .dma (recvS n) := by revert n; decide
  unfold Pipeline.ownSems0
  rw [bigSep_univ_equiv (finSumFinEquiv (m := 8) (n := 8)), bigSep_univ_sum]
  simp only [hs, hr]
  rfl
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

/-! ## The invariants, over all devices at once -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k : CK => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] [Named F] in
/-- A family over devices and turns, dealt on by each turn. -/
theorem deal_around (Φ : Dev nD → Fin 7 → sProp 𝕄) :
    (bigSep Finset.univ fun c : Dev nD => bigSep Finset.univ fun o : Fin 7 => Φ c o) = bigSep Finset.univ fun c : Dev nD => bigSep Finset.univ fun o : Fin 7 => Φ (fwd c o) o := by
  rw [bigSep_univ_comm, bigSep_univ_comm (fun (c : Dev nD) (o : Fin 7) => Φ (fwd c o) o)]
  exact bigSep_congr fun o _ => bigSep_univ_equiv (turn o) fun c => Φ c o

omit [FloatOps F] [Named F] in
theorem toks_around : (bigSep Finset.univ fun c : Dev nD => (toks c : sProp 𝕄)) = bigSep Finset.univ fun c : Dev nD => payToks c := by
  unfold toks payToks
  rw [bigSep_sep', bigSep_sep', bigSep_sep', bigSep_sep']
  congr 1
  · rw [← deal_around fun (c : Dev nD) (o : Fin 7) => dutyTok ER (barCell c) 0 o.rev]
    exact bigSep_congr fun c _ => bigSep_univ_equiv Fin.revPerm fun e : Fin 7 => dutyTok ER (barCell c) 0 e
  · congr 1
    exact deal_around fun (c : Dev nD) (o : Fin 7) => dutyTok ER (recvCell c o.succ) 0 0

omit [FloatOps F] [Named F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  iapply (bigSep_with (R := records m ρ K) (Φ := fun c => iprop(positions c ∗ payToks c)) (fun c _ => show _ ⊢ G' m ρ c from by
    unfold G' ghost; iintro H; iexists K; iexact H))
  isplitr
  · unfold records; isplitl; · iexact HI
    iexact HR
  · rw [bigSep_sep']; unfold positions
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owedRecv_bar (d c : Dev nD) : ∀ l, owedRecv d l (barCell c) () = 0
  | [] => rfl
  | o :: l => by
    unfold owedRecv
    rw [Pi.add_apply, Finsupp.add_apply, owedRecv_bar d c l, tallyAt_ne_cell (fun h => recv_ne_bar o.succ (congrArg Prod.snd h).symm)]
    rfl
theorem owedBar_bar (d c : Dev nD) : ∀ l, owedBar d l (barCell c) () = (l.map fun o => if fwd d o = c then 1 else 0).sum
  | [] => by unfold owedBar; exact owedRecv_bar d c _
  | o :: l => by
    unfold owedBar
    rw [Pi.add_apply, Finsupp.add_apply, owedBar_bar d c l, tallyAt_apply, List.map_cons, List.sum_cons, Nat.add_comm]
    congr 1
    by_cases h : fwd d o = c
    · subst h; rw [if_pos ⟨rfl, rfl⟩, if_pos rfl]
    · rw [if_neg (fun h' => h (congrArg (fun g : GSem nD τ sig => g.1.1) h'.1).symm), if_neg h]
theorem owedRecv_recv (d c : Dev nD) (n : Fin 8) :
    ∀ l, owedRecv d l (recvCell c n) () = N * (l.map fun o => if fwd d o = c ∧ o.succ = n then 1 else 0).sum
  | [] => rfl
  | o :: l => by
    unfold owedRecv
    rw [Pi.add_apply, Finsupp.add_apply, owedRecv_recv d c n l, tallyAt_apply, List.map_cons, List.sum_cons, Nat.mul_add, Nat.add_comm]
    congr 1
    by_cases h : fwd d o = c ∧ o.succ = n
    · rw [if_pos h, Nat.mul_one, ← h.1, ← h.2, if_pos ⟨rfl, rfl⟩]
    · rw [if_neg h, Nat.mul_zero, if_neg]
      rintro ⟨h', -⟩
      exact h ⟨(congrArg (fun g : GSem nD τ sig => g.1.1) h').symm, (recv_inj (SemLoc.dma.inj (congrArg Prod.snd h'))).symm⟩
theorem owedBar_recv (d c : Dev nD) (n : Fin 8) : ∀ l, owedBar d l (recvCell c n) () = owedRecv d all7 (recvCell c n) ()
  | [] => rfl
  | o :: l => by
    unfold owedBar
    rw [Pi.add_apply, Finsupp.add_apply, owedBar_recv d c n l, tallyAt_ne_cell (fun h => recv_ne_bar n (congrArg Prod.snd h))]
    rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  refine (Finset.sum_congr rfl fun d _ => owedBar_bar d c all7).trans ?_
  revert c; decide
theorem launch_recv (c : Dev nD) (o : Fin 7) :
    tallyOn (recvCell c o.succ) (launchCredit (Pipeline.owing O₀) 0 (recvCell c o.succ)) = (tallyAt (recvCell c o.succ) () N : CellTallies nD τ sig Unit) := by
  have h1 : ∑ d : Dev nD, (all7.map fun o' => if fwd d o' = c ∧ o'.succ = o.succ then 1 else 0).sum = 1 := by revert c o; decide
  unfold tallyAt; refine congrArg _ (Finsupp.ext fun u => ?_); cases u
  rw [Pipeline.launchCredit_owing, Finsupp.single_eq_same]
  refine (Finset.sum_congr rfl fun d _ => (owedBar_recv d c o.succ all7).trans (owedRecv_recv d c o.succ all7)).trans ?_
  rw [← Finset.mul_sum, h1, Nat.mul_one]

/-- The semaphores a device is dealt credits of. -/
abbrev crSem : Unit ⊕ Fin 7 → SemLoc sig
  | .inl _ => .reg barS
  | .inr o => .dma (recvS o.succ)
theorem crSem_injective : Function.Injective crSem := by decide

omit [FloatOps F] [Named F] in
theorem creds (c : Dev nD) : (Pipeline.launchCred O₀ c : sProp 𝕄) ⊢ credits c := by
  unfold Pipeline.launchCred credits
  refine BIBase.Entails.trans (BI.bigSep_subset (Finset.subset_univ (Finset.univ.map ⟨crSem, crSem_injective⟩))) ?_
  refine Entails.of_eq ?_
  rw [bigSep_map, bigSep_univ_sum, bigSep_univ_eq_bigSepL [()] (by decide) (by decide)]
  congr 1
  · exact congrArg cred (launch_bar c)
  · exact bigSep_congr fun o _ => congrArg cred (launch_recv c o)

/-! ## The region rule's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a device's arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero counters: every weakly fair execution
    terminates, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem finalA_in (c : Dev nD) (w : Fin 4) (hw : w ≠ 3) : finalA m ρ c w = (s₀ m ρ).mem ((cfg0.win w).arr.view.loc (c : Thread nD τ)) := by
  fin_cases w
  · exact (dats (F := F) m ρ 0 c).arrAt_in (0 : Fin 4) rfl _
  · exact (dats (F := F) m ρ 0 c).arrAt_in (1 : Fin 4) rfl _
  · exact (dats (F := F) m ρ 0 c).arrAt_in (2 : Fin 4) rfl _
  · exact absurd rfl hw

end Cert.Exchange

end
-- ==== Proof.Rows.lean ====
/-
# A device's rows

Where the queries and the keys are real, a device's output at a row and a column is the weighted sum of the values over the
sum of the exponentials, each summed over the eight blocks in the order their slots are folded.
-/
module

public import proofs.«01_k».proof.Proof.Fold
public import proofs.«01_k».proof.Proof.Launch

@[expose] public section

noncomputable section

namespace Cert.Exchange

open Cert.KernelIdeal Cert.KernelIdeal.Gen
open Idealize.ShloMosaic Idealize.ShloMosaic.TcCoe Idealize.ShloMosaic.ValueIdx
open Idealize.ShloMosaic.Pipeline
open scoped BigOperators

variable (m : (ℓ : Loc nD τ sig) → Buf (Elt Ideal) ℓ) (ρ : Dev nD → PrngReg)

/-! ## The arrays and the staged blocks -/

/-- The one block of an input covers its array. -/
theorem staged_q (c : Dev nD) (i : Fin 512) (d : Fin 128) : qstg m ρ c (ix2 i d) = m ((c : Thread nD τ).loc main_arg0) (ix2 i d) := by
  show (s₀ m ρ).mem ((c : Thread nD τ).loc main_arg0) (((cfg0.win (0 : Fin 4)).blk t₀).view.emb (ix2 i d)) = _
  refine congrArg (m ((c : Thread nD τ).loc main_arg0)) ?_
  funext a
  exact Fin.ext (Window.rect_emb_val_of_index_zero (cfg0.win (0 : Fin 4)) t₀ a (by fin_cases a <;> rfl) (ix2 i d))
theorem staged_k (c : Dev nD) (i : Fin 512) (d : Fin 128) : kstg m ρ c (ix2 i d) = m ((c : Thread nD τ).loc main_arg1) (ix2 i d) := by
  show (s₀ m ρ).mem ((c : Thread nD τ).loc main_arg1) (((cfg0.win (1 : Fin 4)).blk t₀).view.emb (ix2 i d)) = _
  refine congrArg (m ((c : Thread nD τ).loc main_arg1)) ?_
  funext a
  exact Fin.ext (Window.rect_emb_val_of_index_zero (cfg0.win (1 : Fin 4)) t₀ a (by fin_cases a <;> rfl) (ix2 i d))
theorem staged_v (c : Dev nD) (i : Fin 512) (d : Fin 128) : vstg m ρ c (ix2 i d) = m ((c : Thread nD τ).loc main_arg2) (ix2 i d) := by
  show (s₀ m ρ).mem ((c : Thread nD τ).loc main_arg2) (((cfg0.win (2 : Fin 4)).blk t₀).view.emb (ix2 i d)) = _
  refine congrArg (m ((c : Thread nD τ).loc main_arg2)) ?_
  funext a
  exact Fin.ext (Window.rect_emb_val_of_index_zero (cfg0.win (2 : Fin 4)) t₀ a (by fin_cases a <;> rfl) (ix2 i d))

/-- The output array ends as the body wrote it. -/
theorem final_out (c : Dev nD) (i : Fin 512) (j : Fin 128) : finalA m ρ c (3 : Fin 4) (ix2 i j) = outAt m ρ c (ix2 i j) := by
  have he : ((cfg0.win (3 : Fin 4)).blk t₀).view.emb (ix2 i j) = ix2 i j := by
    funext a
    exact Fin.ext (Window.rect_emb_val_of_index_zero (cfg0.win (3 : Fin 4)) t₀ a (by fin_cases a <;> rfl) (ix2 i j))
  have h := (dats m ρ 0 c).arrAt_emb_eq_flushed (3 : Fin 4) (fun t t' _ _ ht => absurd ((fin_N t).trans (fin_N t').symm) ht) t₀ (by decide) (ix2 i j)
  rw [he] at h
  exact h

/-! ## The fold -/

/-- The scores of a device's row against a block of keys, when queries and keys are real. -/
def rowScores (q : Fin 128 → ℝ) (k : Fin 512 → Fin 128 → ℝ) (t : Fin 512) : ℝ := (∑ d, q d * k t d) * (Real.sqrt 128)⁻¹

theorem real_scores {ι : Type} [Fintype ι] (q k : ι → ℝ) (r : ℝ) : (∑ d, (q d : EReal) * (k d : EReal)) * (r : EReal) = (((∑ d, q d * k d) * r : ℝ) : EReal) := by
  rw [EReal.coe_mul, coe_sum_real]
  exact congrArg (fun y : EReal => y * (r : EReal)) (Finset.sum_congr rfl fun d _ => (EReal.coe_mul _ _).symm)

variable (q : Dev nD → Fin 512 → Fin 128 → ℝ) (k : Dev nD → Fin 512 → Fin 128 → ℝ)

theorem block_scores (hq : ∀ (c : Dev nD) i d, m ((c : Thread nD τ).loc main_arg0) (ix2 i d) = (q c i d : EReal))
    (hk : ∀ (c : Dev nD) i d, m ((c : Thread nD τ).loc main_arg1) (ix2 i d) = (k c i d : EReal)) (c c' : Dev nD) (i t : Fin 512) :
    k0_pay11 (F := Ideal) (qb m ρ c) (kpay m ρ c') (ix2 i t) = (rowScores (q c i) (k c') t : EReal) := by
  refine (scores_apply (qb m ρ c) (kpay m ρ c') i t).trans ?_
  refine Eq.trans ?_ (real_scores (q c i) (k c' t) (Real.sqrt 128)⁻¹)
  refine congrArg (fun y : EReal => y * (((Real.sqrt 128)⁻¹ : ℝ) : EReal)) (Finset.sum_congr rfl fun d _ => ?_)
  have h1 : qb m ρ c (ix2 i d) = (q c i d : EReal) := (pay3_apply (qstg m ρ c) i d).trans ((staged_q m ρ c i d).trans (hq c i d))
  have h2 : kpay m ρ c' (ix4 0 0 t d) = (k c' t d : EReal) := (pay1_apply (kstg m ρ c') t d).trans ((staged_k m ρ c' t d).trans (hk c' t d))
  rw [h1, h2]

theorem block_values (c' : Dev nD) (t : Fin 512) (j : Fin 128) : vpay m ρ c' (ix4 0 0 t j) = m ((c' : Thread nD τ).loc main_arg2) (ix2 t j) :=
  (pay2_apply (vstg m ρ c') t j).trans (staged_v m ρ c' t j)

/-- Device `c`'s output at row `i`, column `j`. -/
theorem out_apply (hq : ∀ (c : Dev nD) i d, m ((c : Thread nD τ).loc main_arg0) (ix2 i d) = (q c i d : EReal))
    (hk : ∀ (c : Dev nD) i d, m ((c : Thread nD τ).loc main_arg1) (ix2 i d) = (k c i d : EReal)) (c : Dev nD) (i : Fin 512) (j : Fin 128) :
    outAt m ρ c (ix2 i j)
      = (∑ n : Fin 8, expAcc (rowScores (q c i) (k (src c n))) fun t => m ((src c n : Thread nD τ).loc main_arg2) (ix2 t j))
        * ((1 / ∑ n : Fin 8, expSum (rowScores (q c i) (k (src c n))) : ℝ) : EReal) := by
  have hs := fun c' => block_scores m ρ q k hq hk c c' i
  have hv := fun c' t => block_values m ρ c' t j
  have hp : ∀ n, 0 < expSum (rowScores (q c i) (k (src c n))) := fun n => expSum_pos _
  have h0 := step_first (qstg m ρ c) (kpay m ρ c) (vpay m ρ c) _ (hs c) _ (hv c)
  have h1 := step_next (qb m ρ c) (mx0 m ρ c) (sm0 m ρ c) (ac0 m ρ c) (ks m ρ c 0) (vs m ρ c 0) h0 _ (hs (src c 1)) _ (hv (src c 1))
  have h2 := step_next (qb m ρ c) (mx1 m ρ c) (sm1 m ρ c) (ac1 m ρ c) (ks m ρ c 1) (vs m ρ c 1) h1 _ (hs (src c 2)) _ (hv (src c 2))
  have h3 := step_next (qb m ρ c) (mx2 m ρ c) (sm2 m ρ c) (ac2 m ρ c) (ks m ρ c 2) (vs m ρ c 2) h2 _ (hs (src c 3)) _ (hv (src c 3))
  have h4 := step_next (qb m ρ c) (mx3 m ρ c) (sm3 m ρ c) (ac3 m ρ c) (ks m ρ c 3) (vs m ρ c 3) h3 _ (hs (src c 4)) _ (hv (src c 4))
  have h5 := step_next (qb m ρ c) (mx4 m ρ c) (sm4 m ρ c) (ac4 m ρ c) (ks m ρ c 4) (vs m ρ c 4) h4 _ (hs (src c 5)) _ (hv (src c 5))
  have h6 := step_next (qb m ρ c) (mx5 m ρ c) (sm5 m ρ c) (ac5 m ρ c) (ks m ρ c 5) (vs m ρ c 5) h5 _ (hs (src c 6)) _ (hv (src c 6))
  have h7 := step_last (qb m ρ c) (mx6 m ρ c) (sm6 m ρ c) (ac6 m ρ c) (ks m ρ c 6) (vs m ρ c 6) h6
    (by have := expSum_pos (rowScores (q c i) (k c)); linarith [hp 1, hp 2, hp 3, hp 4, hp 5, hp 6]) _ (hs (src c 7)) _ (hv (src c 7))
  rw [Fin.sum_univ_eight, Fin.sum_univ_eight, src_zero]
  exact h7

end Cert.Exchange

end
-- ==== Proof.Plain.lean ====
/-
# The reference over the extended reals

Read at a query row and an output column, where the row's scores are real, the reference is the weighted sum of the values
over the sum of the exponentials.
-/
module

public import proofs.«01_k».proof.Proof.Softmax
public import proofs.«01_k».proof.Proof.Gen.ReferenceIdeal.Run
public import Idealize.ShloMosaic.Lib.MatmulPlain
public import Idealize.ShloMosaic.Lib.ValueLayout
public import Idealize.ShloMosaic.Lib.IdealHost
public import Idealize.ShloMosaic.Lib.Pipeline.Value

@[expose] public section

noncomputable section

namespace Cert.Exchange.Plain

open Cert.ReferenceIdeal Cert.ReferenceIdeal.Gen
open Idealize.ShloMosaic Idealize.ShloMosaic.ValueIdx
open scoped BigOperators

variable (Q K V : FVec Ideal S4096x128 .f32)

/-- The scaled scores. -/
def scores : FVec Ideal S4096x4096 .f32 :=
  Host.divf (Host.dotGeneral dot_S4096x128_S128x4096_S4096x4096_1_0_0_1_n_n none Q (transpose S128x4096 [1, 0] K transposes_S4096x128_S128x4096_1_0))
    (broadcastInDim S4096x4096 ![] bcast_S_S4096x4096 (id (Host.sqrt (constant S_ .f32 0x43000000#32))))
/-- A column of row values, wide. -/
def wide (x : FVec Ideal S4096 .f32) : FVec Ideal S4096x4096 .f32 :=
  broadcastInDim S4096x4096 ![0, 1] bcast_S4096x1_S4096x4096_0_1 (broadcastInDim S4096x1 ![0] bcast_S4096_S4096x1_0 x)
/-- The exponentials under the rows' maxima. -/
def weights : FVec Ideal S4096x4096 .f32 :=
  Host.exp (subf (scores Q K) (wide (Host.reduce FloatOps.maximumf (scores Q K) (constant S_ .f32 0xFF800000#32) reducesTo_S4096x4096_S4096_d1 h_S_)))
/-- The result. -/
def result : FVec Ideal S4096x128 .f32 :=
  Host.dotGeneral dot_S4096x4096_S4096x128_S4096x128_1_0_0_1_n_n none
    (Host.divf (weights Q K) (wide (Host.reduceAdd (weights Q K) (constant S_ .f32 0x00000000#32) reducesTo_S4096x4096_S4096_d1 h_S_))) V

theorem root_eq : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

theorem neg_inf : Ideal.ofBits .f32 0xFF800000#32 = ⊥ := by simp [Ideal.ofBits, Ideal.ieee]

theorem scores_apply (i x : Fin 4096) :
    scores Q K (ix2 i x) = (∑ d : Fin 128, Q (ix2 i d) * K (ix2 x d)) * (((Real.sqrt 128)⁻¹ : ℝ) : EReal) := by
  show Ideal.div (FloatOps.matmul (F := Ideal) (DotDims.plain 4096 128 4096) none Q (transpose S128x4096 [1, 0] K transposes_S4096x128_S128x4096_1_0) (fun _ => (0 : EReal)) (ix2 i x))
    (Ideal.sqrt (Ideal.ofBits .f32 0x43000000#32)) = _
  rw [root_eq, Ideal.div_coe (Real.sqrt_ne_zero'.mpr (by norm_num)), Ideal.matmul_plain_apply, zero_add, one_div]
  exact congrArg (fun y : EReal => y * (((Real.sqrt 128)⁻¹ : ℝ) : EReal)) (Finset.sum_congr rfl fun d _ =>
    congrArg (fun y : EReal => Q (ix2 i d) * y) (transpose_ix2_apply K transposes_S4096x128_S128x4096_1_0 d x))

theorem wide_apply (x : FVec Ideal S4096 .f32) (i t : Fin 4096) : wide x (ix2 i t) = x (ix1 i) := by
  refine (broadcastInDim_apply ![0, 1] bcast_S4096x1_S4096x4096_0_1 _ (ix2 i t) (ix2 i 0) fun a => match a with
    | ⟨0, _⟩ => rfl
    | ⟨1, _⟩ => rfl).trans ?_
  exact broadcastInDim_apply ![0] bcast_S4096_S4096x1_0 x (ix2 i 0) (ix1 i) fun a => match a with
    | ⟨0, _⟩ => rfl

theorem reduces_row : S4096x4096.Reduces [1] S4096 := by decide

theorem lift_row (i t : Fin 4096) : reduces_row.lift (ix1 i) t = ix2 i t := by
  funext a; apply Fin.ext
  match a with
  | ⟨0, _⟩ => rfl
  | ⟨1, _⟩ => rfl

theorem row_fold (x : FVec Ideal S4096x4096 .f32) (i : Fin 4096) :
    Host.reduce FloatOps.maximumf x (constant S_ .f32 0xFF800000#32) reducesTo_S4096x4096_S4096_d1 h_S_ (ix1 i)
      = (Finset.univ : Finset (Fin 4096)).fold max ⊥ (fun t => x (ix2 i t)) := by
  have h := Host.reduce_eq_fold_single (s := S4096x4096) (t := S4096) (u := S_) (a := 1) (α := EReal) max x (constant (F := Ideal) S_ .f32 0xFF800000#32)
    reducesTo_S4096x4096_S4096_d1 reduces_row h_S_ (ix1 i)
  have hc : ∀ u : S_.Idx, constant (F := Ideal) S_ .f32 0xFF800000#32 u = (⊥ : EReal) := fun _ => neg_inf
  rw [hc] at h
  refine Eq.trans ?_ (h.trans ?_)
  · rfl
  · exact congrArg (fun g => Finset.fold max (⊥ : EReal) g Finset.univ) (funext fun t => congrArg x (lift_row i t))

theorem row_total (x : FVec Ideal S4096x4096 .f32) (i : Fin 4096) :
    Host.reduceAdd x (constant S_ .f32 0x00000000#32) reducesTo_S4096x4096_S4096_d1 h_S_ (ix1 i) = ∑ t : Fin 4096, x (ix2 i t) := by
  unfold Host.reduceAdd
  refine (Ideal.hostReduceAdd_single reducesTo_S4096x4096_S4096_d1 reduces_row x (Ideal.ofBits .f32 0x00000000#32) (ix1 i)).trans ?_
  rw [Ideal.ofBits_zero_f32, zero_add]
  exact Finset.sum_congr rfl fun t _ => congrArg x (lift_row i t)

/-- A row of the reference whose scores are real. -/
theorem result_apply (i : Fin 4096) (j : Fin 128) (s : Fin 4096 → ℝ) (hs : ∀ x, scores Q K (ix2 i x) = (s x : EReal)) :
    result Q K V (ix2 i j) = expAcc s (fun x => V (ix2 x j)) * ((1 / expSum s : ℝ) : EReal) := by
  obtain ⟨M, hM⟩ := fold_max_real s
  have hw : ∀ x, weights Q K (ix2 i x) = Ideal.exp ((s x : EReal) - (M : EReal)) := by
    intro x
    show Ideal.exp (scores Q K (ix2 i x) - wide _ (ix2 i x)) = _
    rw [wide_apply, row_fold, funext hs, hs, hM]
  show FloatOps.matmul (F := Ideal) (DotDims.plain 4096 4096 128) none
    (Host.divf (weights Q K) (wide (Host.reduceAdd (weights Q K) (constant S_ .f32 0x00000000#32) reducesTo_S4096x4096_S4096_d1 h_S_))) V (fun _ => (0 : EReal)) (ix2 i j) = _
  rw [Ideal.matmul_plain_apply, zero_add, ← plain_row s (fun x => V (ix2 x j)) M]
  refine Finset.sum_congr rfl fun x _ => congrArg (fun y : EReal => y * V (ix2 x j)) ?_
  show Ideal.div (weights Q K (ix2 i x)) (wide _ (ix2 i x)) = _
  rw [wide_apply, row_total, funext hw, hw]

end Cert.Exchange.Plain

end
-- ==== Proof.Frames.lean ====
/-
# The frames

The run is over any float values: at the extended reals it is the named program's, and at the device's own values, each
name read as the printed constant, the printed program's.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.Exchange

open Idealize.ShloMosaic Idealize.ShloMosaic.TcCoe Idealize.SL.Sem

/-- The run with every input read back as it was. -/
theorem frame_any {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun _ h => ⟨fun c => ⟨(h.1 c (0 : Fin 4)).trans (finalA_in m ρ c 0 (by decide)), (h.1 c (1 : Fin 4)).trans (finalA_in m ρ c 1 (by decide)),
      (h.1 c (2 : Fin 4)).trans (finalA_in m ρ c 2 (by decide))⟩, h.2⟩)
    (run_main m ρ)

theorem frame_ideal : Cert.quiescent_KernelIdeal := fun m ρ _ => frame_any (F := Ideal) m ρ

/-- A name read as the constant it was printed for. -/
@[reducible] def printed : Named Bits := ⟨fun _ _ {φ} b => Scalar.ofBits φ b⟩

/-- The two programs' body tables agree, a body at a time, -/
theorem bodies_eq : @Cert.KernelIdeal.defs₀ Bits _ printed _ = @Cert.Kernel.defs₀ Bits _ _ := by
  unfold Cert.KernelIdeal.defs₀ Cert.Kernel.defs₀
  refine congrArg (Defs.onTc (nD := Cert.Kernel.nD) (τ := Cert.Kernel.τ) (sig := Cert.Kernel.sig) (Λ := Cert.Kernel.Λ₀)) ?_
  funext l a
  obtain ⟨l, hl⟩ := l
  obtain _ | l := l
  · obtain ⟨t, s⟩ := a
    rfl
  · exact absurd hl (by simp)
/-- and with them the tables of the whole programs. -/
theorem tables_eq : @Cert.KernelIdeal.defs Bits _ printed _ = @Cert.Kernel.defs Bits _ _ := by
  unfold Cert.KernelIdeal.defs Cert.Kernel.defs
  exact congrArg (Pipeline.defs (Cert.Kernel.pcfgs (F := Bits))) bodies_eq

theorem run_under {S : MemSt Cert.KernelIdeal.nD Cert.KernelIdeal.τ Cert.KernelIdeal.sig (Elt Bits)} {P : PUnit × MemSt Cert.KernelIdeal.nD Cert.KernelIdeal.τ Cert.KernelIdeal.sig (Elt Bits) → Prop}
    (h : θ_run (@Cert.KernelIdeal.defs Bits _ printed _) (onTc (τ := Cert.KernelIdeal.τ) (Cert.KernelIdeal.main (F := Bits))) S P) :
    ∀ D, @Cert.KernelIdeal.defs Bits _ printed _ = D → θ_run D (onTc (τ := Cert.KernelIdeal.τ) (Cert.KernelIdeal.main (F := Bits))) S P := by
  rintro _ rfl
  exact h

/-- The run is the printed program's. -/
theorem frame_printed : Cert.quiescent_Kernel := fun m ρ _ => run_under (@frame_any Bits _ printed m ρ) _ tables_eq

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The name stands for the real the printed constant was rounded from. -/
theorem preserves : Cert.preserves_Kernel_KernelIdeal :=
  IdealRules.named_const.statement Cert.KernelIdeal.κ "s" .f32 0x3DB504F3#32 (((Real.sqrt 128)⁻¹ : ℝ) : EReal) rfl

end Cert.Exchange

end
-- ==== Proof.Value.lean ====
/-
# The kernel computes the reference

From blocks of the reference's arrays whose queries and keys are finite, every device ends with its block of the reference's
result, over the extended reals.
-/
module

public import proofs.«01_k».proof.Proof.Rows
public import proofs.«01_k».proof.Proof.Plain
public import proofs.«01_k».proof.Proof.Frames

@[expose] public section

noncomputable section

namespace Cert.Exchange

open Idealize.ShloMosaic Idealize.ShloMosaic.TcCoe Idealize.ShloMosaic.ValueIdx Idealize.SL.Sem
open Cert.KernelIdeal (nD τ sig main_arg0 main_arg1 main_arg2 main_v1)
open scoped BigOperators

/-! ## The finite elements -/

theorem top_eq : Ideal.ofBits .f32 0x7F800000#32 = ⊤ := by simp [Ideal.ofBits, Ideal.ieee]

theorem below_top {x : EReal} (h : Ideal.cmp .olt (max x (-x)) (Ideal.ofBits .f32 0x7F800000#32) = 1#1) : ∃ r : ℝ, x = (r : EReal) := by
  rw [top_eq] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨h1, h2⟩ := max_lt_iff.mp hlt
  refine ⟨x.toReal, (EReal.coe_toReal h1.ne ?_).symm⟩
  rintro rfl
  exact absurd h2 (by simp)

theorem both_one : ∀ {a b : BitVec 1}, a &&& b = 1#1 → a = 1#1 ∧ b = 1#1 := by decide

/-- Under the precondition every element of the queries and the keys is real. -/
theorem finite_blocks [Cert.Pre_finite_scores_KernelIdeal.Facts] {m : (ℓ : Loc nD τ sig) → Buf (Elt Ideal) ℓ}
    (h : Cert.Pre_KernelIdeal_finite_scores_KernelIdeal m) (c : Dev nD) (y : Shape.Idx ⟨2, ![512, 128]⟩) :
    (∃ r : ℝ, m ((c : Thread nD τ).loc main_arg0) y = (r : EReal)) ∧ ∃ r : ℝ, m ((c : Thread nD τ).loc main_arg1) y = (r : EReal) := by
  obtain ⟨h0, h1⟩ := both_one (congrFun (h c) y)
  exact ⟨below_top h0, below_top h1⟩

/-! ## Blocks of rows -/

/-- Row `i` of block `c`, of the whole. -/
def row (c : Fin 8) (i : Fin 512) : Fin 4096 := ⟨c.val * 512 + i.val, by omega⟩

theorem block_row {α : Type} (v : Shape.Idx ⟨2, ![4096, 128]⟩ → α) (c : Fin 8) (i : Fin 512) (d : Fin 128) :
    Layout.block ⟨2, ![512, 128]⟩ ⟨2, ![4096, 128]⟩ 0 8 c v (by decide) (ix2 i d) = v (ix2 (row c i) d) := by
  rw [Layout.block_apply]
  refine congrArg v (funext fun a => Fin.ext ?_)
  match a with
  | ⟨0, _⟩ => rfl
  | ⟨1, _⟩ => rfl

/-- A sum over the rows is the sum over the blocks of the sums over a block. -/
theorem sum_rows {M : Type} [AddCommMonoid M] (f : Fin 4096 → M) : ∑ x, f x = ∑ c : Fin 8, ∑ t : Fin 512, f (row c t) := by
  rw [← Fintype.sum_prod_type' (fun (c : Fin 8) (t : Fin 512) => f (row c t))]
  refine (Fintype.sum_equiv (finProdFinEquiv (m := 8) (n := 512)) (fun p => f (row p.1 p.2)) f fun p => ?_).symm
  refine congrArg f (Fin.ext ?_)
  show p.1.val * 512 + p.2.val = p.2.val + 512 * p.1.val
  omega

theorem row_onto (x : Fin 4096) : ∃ c t, x = row c t :=
  ⟨⟨x.val / 512, by omega⟩, ⟨x.val % 512, by omega⟩, Fin.ext (by show x.val = x.val / 512 * 512 + x.val % 512; omega)⟩

theorem src_src (c : Dev nD) (n : Fin 8) : src c (src c n) = n := by revert c n; decide

/-- The slots of a device hold every block once. -/
theorem sum_src {M : Type} [AddCommMonoid M] (c : Dev nD) (f : Fin 8 → M) : ∑ n : Fin 8, f (src c n) = ∑ n : Fin 8, f n :=
  Equiv.sum_comp (Function.Involutive.toPerm (fun n : Fin 8 => (src c n : Fin 8)) (src_src c)) f

/-! ## The output -/

variable (m : (ℓ : Loc nD τ sig) → Buf (Elt Ideal) ℓ) (ρ : Dev nD → PrngReg)

theorem whole_scores {Q K : Shape.Idx ⟨2, ![4096, 128]⟩ → EReal} {q k : Fin 8 → Fin 512 → Fin 128 → ℝ}
    (hQ : ∀ c i d, Q (ix2 (row c i) d) = (q c i d : EReal)) (hK : ∀ c i d, K (ix2 (row c i) d) = (k c i d : EReal)) (c c' : Fin 8) (i t : Fin 512) :
    Plain.scores Q K (ix2 (row c i) (row c' t)) = (rowScores (q c i) (k c') t : EReal) := by
  rw [Plain.scores_apply]
  refine Eq.trans ?_ (real_scores (q c i) (k c' t) (Real.sqrt 128)⁻¹)
  exact congrArg (fun y : EReal => y * (((Real.sqrt 128)⁻¹ : ℝ) : EReal)) (Finset.sum_congr rfl fun d _ => by rw [hQ, hK])

/-- A device's output is its block of the reference's result. -/
theorem out_block (Q K V : Shape.Idx ⟨2, ![4096, 128]⟩ → EReal)
    (hreal : ∀ (c : Dev nD) (y : Shape.Idx ⟨2, ![512, 128]⟩),
      (∃ r : ℝ, m ((c : Thread nD τ).loc main_arg0) y = (r : EReal)) ∧ ∃ r : ℝ, m ((c : Thread nD τ).loc main_arg1) y = (r : EReal))
    (hQ : ∀ c : Dev nD, m ((c : Thread nD τ).loc main_arg0) = Layout.block ⟨2, ![512, 128]⟩ ⟨2, ![4096, 128]⟩ 0 8 c Q)
    (hK : ∀ c : Dev nD, m ((c : Thread nD τ).loc main_arg1) = Layout.block ⟨2, ![512, 128]⟩ ⟨2, ![4096, 128]⟩ 0 8 c K)
    (hV : ∀ c : Dev nD, m ((c : Thread nD τ).loc main_arg2) = Layout.block ⟨2, ![512, 128]⟩ ⟨2, ![4096, 128]⟩ 0 8 c V)
    (c : Dev nD) : finalA m ρ c (3 : Fin 4) = Layout.block ⟨2, ![512, 128]⟩ ⟨2, ![4096, 128]⟩ 0 8 c (Plain.result Q K V) := by
  choose qr hq using fun (c : Dev nD) (i : Fin 512) (d : Fin 128) => (hreal c (ix2 i d)).1
  choose kr hk using fun (c : Dev nD) (i : Fin 512) (d : Fin 128) => (hreal c (ix2 i d)).2
  have hQ' : ∀ c i d, Q (ix2 (row c i) d) = (qr c i d : EReal) := fun c i d => by
    rw [← hq c i d, hQ c]; exact (block_row Q c i d).symm
  have hK' : ∀ c i d, K (ix2 (row c i) d) = (kr c i d : EReal) := fun c i d => by
    rw [← hk c i d, hK c]; exact (block_row K c i d).symm
  have hV' : ∀ (c : Dev nD) i d, m ((c : Thread nD τ).loc main_arg2) (ix2 i d) = V (ix2 (row c i) d) := fun c i d => by
    rw [hV c]; exact block_row V c i d
  refine funext fun (y : Shape.Idx ⟨2, ![512, 128]⟩) => ?_
  rw [eq_ix2 y]
  generalize y 0 = i
  generalize y 1 = j
  refine (final_out m ρ c i j).trans (((out_apply m ρ qr kr hq hk c i j).trans ?_).trans (block_row (Plain.result Q K V) c i j).symm)
  have hreal' : ∀ x : Fin 4096, ∃ r : ℝ, Plain.scores Q K (ix2 (row c i) x) = (r : EReal) := fun x => by
    obtain ⟨c', t, rfl⟩ := row_onto x
    exact ⟨rowScores (qr c i) (kr c') t, whole_scores hQ' hK' c c' i t⟩
  choose s hs using hreal'
  have hb : ∀ c' t, s (row c' t) = rowScores (qr c i) (kr c') t := fun c' t =>
    EReal.coe_injective ((hs (row c' t)).symm.trans (whole_scores hQ' hK' c c' i t))
  have hsum : expSum s = ∑ n : Fin 8, expSum (rowScores (qr c i) (kr (src c n))) := by
    rw [sum_src c fun n => expSum (rowScores (qr c i) (kr n))]
    refine (sum_rows _).trans (Finset.sum_congr rfl fun c' _ => Finset.sum_congr rfl fun t _ => ?_)
    rw [hb]
  have hacc : expAcc s (fun x => V (ix2 x j))
      = ∑ n : Fin 8, expAcc (rowScores (qr c i) (kr (src c n))) fun t => m ((src c n : Thread nD τ).loc main_arg2) (ix2 t j) := by
    rw [sum_src c fun n => expAcc (rowScores (qr c i) (kr n)) fun t => m (((n : Dev nD) : Thread nD τ).loc main_arg2) (ix2 t j)]
    refine (sum_rows _).trans (Finset.sum_congr rfl fun c' _ => Finset.sum_congr rfl fun t _ => ?_)
    rw [hb]
    exact congrArg (fun y : EReal => (Real.exp (rowScores (qr c i) (kr c') t) : EReal) * y) (hV' c' t j).symm
  rw [Plain.result_apply Q K V (row c i) j s hs, hsum, hacc]

/-- The claim. -/
theorem algebraic [Cert.Pre_finite_scores_KernelIdeal.Facts] : Cert.algebraic_KernelIdeal_ReferenceIdeal_pre_finite_scores_KernelIdeal := by
  intro m g m' g' hpre hblk
  refine ⟨Plain.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨?_, (h.1 c (0 : Fin 4)).trans (finalA_in m g c 0 (by decide)),
      (h.1 c (1 : Fin 4)).trans (finalA_in m g c 1 (by decide)), (h.1 c (2 : Fin 4)).trans (finalA_in m g c 2 (by decide))⟩) (run_main m g)
    exact (h.1 c (3 : Fin 4)).trans (out_block m g _ _ _ (finite_blocks hpre) (fun c => (hblk c).1) (fun c => (hblk c).2.1) (fun c => (hblk c).2.2) c)
  · exact (θ_run Cert.ReferenceIdeal.defs _ _).mono (fun r h => h 0) (Cert.ReferenceIdeal.Value.run (F := Ideal) m' g')

end Cert.Exchange

end
-- ==== Proof.lean ====
/-
# The certificate

The three frames, the named constant, and the kernel's equality with the reference where the queries and the keys are
finite.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Value

@[expose] public section

noncomputable section

namespace Cert.Proof

open Cert.Exchange

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_printed, frame_ideal, fun m g _ => frame_ideal m g trivial, frame_reference,
    fun m g _ => frame_reference m g trivial, preserves, algebraic⟩

end Cert.Proof

end
